-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S8x256x1024 : Shape := ⟨3, ![8, 256, 1024]⟩
abbrev S8 : Shape := ⟨1, ![8]⟩
abbrev S3x1x1024 : Shape := ⟨3, ![3, 1, 1024]⟩
abbrev S3 : Shape := ⟨1, ![3]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1024 : Shape := ⟨1, ![1024]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S1x1024, .bf16⟩
  | .local _ .vmem, ⟨0, _⟩ => ⟨S1x1024, .bf16⟩
  | .local _ .vmem, ⟨1, _⟩ => ⟨S8x256x1024, .bf16⟩
  | .local _ .vmem, ⟨2, _⟩ => ⟨S1x1024, .bf16⟩
  | .local _ .vmem, ⟨3, _⟩ => ⟨S3x1x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch2 : Ref sig .tc := ⟨.vmem, 2, rfl⟩
abbrev cc0_scratch3 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_125 : BitVec 32 := 1#32
  let v156 : BitVec 32 := Scalar.addi v2 c1_i32_125
  let c4_i32_126 : BitVec 32 := 4#32
  let v157 : BitVec 32 := Scalar.remsi v156 c4_i32_126
  let c1_i32_130 : BitVec 32 := 1#32
  let v158 : BitVec 32 := Scalar.muli v157 c1_i32_130
  let v159 : BitVec 32 := Scalar.addi c0_i32_131 v158
  v159.toNat
def k0_dev5 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_134 : BitVec 32 := 2#32
  let v166 : BitVec 32 := Scalar.addi v2 c2_i32_134
  let c4_i32_135 : BitVec 32 := 4#32
  let v167 : BitVec 32 := Scalar.remsi v166 c4_i32_135
  let c1_i32_139 : BitVec 32 := 1#32
  let v168 : BitVec 32 := Scalar.muli v167 c1_i32_139
  let v169 : BitVec 32 := Scalar.addi c0_i32_140 v168
  v169.toNat
def k0_dev6 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v176 : BitVec 32 := Scalar.addi v2 c3_i32_143
  let c4_i32_144 : BitVec 32 := 4#32
  let v177 : BitVec 32 := Scalar.remsi v176 c4_i32_144
  let c1_i32_148 : BitVec 32 := 1#32
  let v178 : BitVec 32 := Scalar.muli v177 c1_i32_148
  let v179 : BitVec 32 := Scalar.addi c0_i32_149 v178
  v179.toNat
abbrev stage0_0 : Fin 1 → Memref sig .tc .vmem S1x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S1x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdealProtocol.lean ====
/-
# The protocol of the four devices

Every device sums its own 2048 rows and tells the other three the result. Three kinds of agreement are involved,
and this module states them before any program is run:

* a device copies its rows into its scratch in eight tiles, each tile announced on a semaphore of its own;
* before anything is sent, every device tells the three others that it is ready to receive, on the barrier
  semaphore, and waits until the three others have told it;
* a device sends its own sum to each of the three others, into a slot of the receiver's landing buffer; one
  semaphore of the sender's says that the sum was read, one of the receiver's that it has arrived.

Each of these semaphores is one cell of a schedule of a single round. What a cell's round hands over is stated with
the contents: the rows that the tile holds, the sum that the slot holds.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The ghost state of the schedule below: its duties are numbered by `Fin 3`. -/
abbrev UB : Type := URounds (GSem nD τ sig) (Fin 3)
/-- The ghost state of the whole proof: the staging pipeline's beside the schedule's. -/
abbrev UU : Type := UR sig nD τ × UB

local notation "𝕄" => MT nD τ sig Unit (Elt F) ℕ UU ℕ

/-- Where the staging pipeline's ghost state lies in the whole. -/
abbrev EP : Emb (UR sig nD τ) (MT nD τ sig Unit (Elt F) ℕ UU ℕ) := embL
/-- Where the schedule's ghost state lies in the whole. -/
abbrev ER : Emb UB (MT nD τ sig Unit (Elt F) ℕ UU ℕ) := embR

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-! ## Who talks to whom -/

set_option backward.proofsInPublic true in
/-- The device that send number `s` of device `c` goes to: `s + 1` places on. -/
def tgt (s : Fin 3) (c : Dev nD) : Dev nD := ⟨(c.val + (s.val + 1)) % 4, Nat.mod_lt _ (by decide)⟩
set_option backward.proofsInPublic true in
/-- The device whose send number `s` comes to device `c`: `s + 1` places back. -/
def src (s : Fin 3) (c : Dev nD) : Dev nD := ⟨(c.val + (3 - s.val)) % 4, Nat.mod_lt _ (by decide)⟩

theorem tgt_src (s : Fin 3) (c : Dev nD) : tgt s (src s c) = c := by revert s c; decide
theorem src_tgt (s : Fin 3) (c : Dev nD) : src s (tgt s c) = c := by revert s c; decide

/-- Going `s + 1` places on is a one-to-one map of the devices. -/
def turn (s : Fin 3) : Dev nD ≃ Dev nD := ⟨tgt s, src s, src_tgt s, tgt_src s⟩

/-! ## The memory pieces -/

/-- A device's rows. -/
abbrev xM : Memref sig .tc .hbm S2048x1024 .bf16 := Memref.whole main_arg0
/-- The result, as staged. -/
abbrev oM : Memref sig .tc .vmem S1x1024 .bf16 := Memref.whole cc0_stg0_0
/-- The scratch that the tiles are copied to. -/
abbrev bM : Memref sig .tc .vmem S8x256x1024 .bf16 := Memref.whole cc0_scratch0
/-- A device's own sum. -/
abbrev eM : Memref sig .tc .vmem S1x1024 .bf16 := Memref.whole cc0_scratch2
/-- The landing buffer: one slot for each of the other devices. -/
abbrev cM : Memref sig .tc .vmem S3x1x1024 .bf16 := Memref.whole cc0_scratch3

theorem x_inb (t : Fin 8) : ∀ a, (![256 * t.val, 0] : Fin 2 → ℕ) a + S256x1024.size a ≤ S2048x1024.size a := by
  revert t; decide
theorem b_inb (t : Fin 8) : ∀ a, (![t.val, 0, 0] : Fin 3 → ℕ) a + S1x256x1024.size a ≤ S8x256x1024.size a := by
  revert t; decide
theorem c_inb (s : Fin 3) : ∀ a, (![s.val, 0, 0] : Fin 3 → ℕ) a + S1x1x1024.size a ≤ S3x1x1024.size a := by
  revert s; decide

/-- Rows `256 t` to `256 t + 255` of the input. -/
abbrev xR (t : Fin 8) : Rect S2048x1024 := Rect.unit (s := S2048x1024) ![256 * t.val, 0] S256x1024.size (x_inb t)
/-- Tile `t` of the scratch. -/
abbrev bR (t : Fin 8) : Rect S8x256x1024 := Rect.unit (s := S8x256x1024) ![t.val, 0, 0] S1x256x1024.size (b_inb t)
/-- Slot `s` of the landing buffer. -/
abbrev cR (s : Fin 3) : Rect S3x1x1024 := Rect.unit (s := S3x1x1024) ![s.val, 0, 0] S1x1x1024.size (c_inb s)

abbrev xT (t : Fin 8) : Memref sig .tc .hbm S256x1024 .bf16 := xM.slice (xR t) (fun _ => rfl)
abbrev bT (t : Fin 8) : Memref sig .tc .vmem S1x256x1024 .bf16 := bM.slice (bR t) (fun _ => rfl)
abbrev cT (s : Fin 3) : Memref sig .tc .vmem S1x1x1024 .bf16 := cM.slice (cR s) (fun _ => rfl)
/-- A tile and a slot as the transfers name them, the axis of size one dropped. -/
abbrev bQ (t : Fin 8) : Memref sig .tc .vmem S256x1024 .bf16 := (bT t).squeeze S256x1024 squeezes_S1x256x1024_S256x1024
abbrev cQ (s : Fin 3) : Memref sig .tc .vmem S1x1024 .bf16 := (cT s).squeeze S1x1024 squeezes_S1x1x1024_S1x1024

/-- The input's tiles lie apart from each other, -/
theorem x_apart (t t' : Fin 8) (h : t ≠ t') : Disjoint (xR t).set (xR t').set :=
  Ring.lead_disjoint (s := S2048x1024) 0 256 (fun t : Fin 8 => ![256 * t.val, 0]) S256x1024.size x_inb (fun _ => rfl) rfl t t' h
/-- and together are all of it. -/
theorem x_all : (Finset.univ : Finset (Fin 8)).biUnion (fun t => (xR t).set) = Finset.univ :=
  Ring.lead_cover (s := S2048x1024) 0 256 (fun t : Fin 8 => ![256 * t.val, 0]) S256x1024.size x_inb (fun _ => rfl)
    (by decide) rfl (by decide) rfl
theorem b_apart (t t' : Fin 8) (h : t ≠ t') : Disjoint (bR t).set (bR t').set :=
  Ring.lead_disjoint (s := S8x256x1024) 0 1 (fun t : Fin 8 => ![t.val, 0, 0]) S1x256x1024.size b_inb (fun t => (Nat.one_mul _).symm) rfl t t' h
theorem b_all : (Finset.univ : Finset (Fin 8)).biUnion (fun t => (bR t).set) = Finset.univ :=
  Ring.lead_cover (s := S8x256x1024) 0 1 (fun t : Fin 8 => ![t.val, 0, 0]) S1x256x1024.size b_inb (fun t => (Nat.one_mul _).symm)
    (by decide) rfl (by decide) rfl
theorem c_apart (s s' : Fin 3) (h : s ≠ s') : Disjoint (cR s).set (cR s').set :=
  Ring.lead_disjoint (s := S3x1x1024) 0 1 (fun s : Fin 3 => ![s.val, 0, 0]) S1x1x1024.size c_inb (fun t => (Nat.one_mul _).symm) rfl s s' h
theorem c_all : (Finset.univ : Finset (Fin 3)).biUnion (fun s => (cR s).set) = Finset.univ :=
  Ring.lead_cover (s := S3x1x1024) 0 1 (fun s : Fin 3 => ![s.val, 0, 0]) S1x1x1024.size c_inb (fun t => (Nat.one_mul _).symm)
    (by decide) rfl (by decide) rfl

/-! ## The contents -/

/-- What tile `t` of device `c`'s rows holds. -/
def rows (c : Dev nD) (t : Fin 8) : S256x1024.Idx → Elt F .bf16 :=
  fun j => xM.view.read (Elt F) (m ((c : Thread nD τ).loc main_arg0)) ((xR t).emb j)

/-- The same, under the shape that the scratch's tile has. -/
def tile (c : Dev nD) (t : Fin 8) : S1x256x1024.Idx → Elt F .bf16 :=
  fun i => rows m c t ((Shape.reshapeEquiv squeezes_S1x256x1024_S256x1024.numel_eq).symm i)

/-- The sum of device `c`'s own rows, as the kernel computes it from the tiles. -/
def mySum (c : Dev nD) : S1x1024.Idx → Elt F .bf16 :=
  k0_pay6 (k0_pay5 (k0_pay4 (k0_pay2 (tile m c 0)) (k0_pay3 (tile m c 1)) (tile m c 2) (tile m c 3))
    (tile m c 4) (tile m c 5) (tile m c 6)) (tile m c 7)

/-- A sum under the shape of a slot of the landing buffer. -/
def slotOf (v : S1x1024.Idx → Elt F .bf16) : S1x1x1024.Idx → Elt F .bf16 :=
  fun i => v ((Shape.reshapeEquiv squeezes_S1x1x1024_S1x1024.numel_eq).symm i)

/-- The result on device `c`: its own sum and those of the devices one, two and three places back. -/
def outAt (c : Dev nD) : S1x1024.Idx → Elt F .bf16 :=
  k0_pay1 (k0_pay7 (mySum m c) (slotOf (mySum m (src 0 c))) (slotOf (mySum m (src 1 c)))) (slotOf (mySum m (src 2 c)))

/-- The third of the ownership of a device's own sum that goes with send number `s`. -/
def third (s : Fin 3) : PosShare TreeShare := Transfers.dealOf fullShare (Finset.univ : Finset (Fin 3)) s

/-- A piece of memory of device `c`, held at share `q` and holding `X`. -/
abbrev held (c : Dev nD) {sp : Space} {sh : Shape} {e : EltTy} (M : Memref sig .tc sp sh e) (q : PosShare TreeShare)
    (X : sh.Idx → Elt F e) : sProp 𝕄 := owns (c : Thread nD τ) M q X

/-- Dropping axes of size one changes nothing about which places a name covers. -/
theorem set_squeeze (c : Dev nD) {sp : Space} {sh sh' : Shape} {e : EltTy} (M : Memref sig .tc sp sh e) (h : sh.Squeezes sh')
    (q : PosShare TreeShare) (f : Buf (Elt F) (M.view.loc (c : Thread nD τ))) :
    ((M.squeeze sh' h).view.loc (c : Thread nD τ) ↦[(M.squeeze sh' h).view.set]{q} f : sProp 𝕄)
      = (M.view.loc (c : Thread nD τ) ↦[M.view.set]{q} f) :=
  congrArg (fun S => (M.view.loc (c : Thread nD τ) ↦[S]{q} f : sProp 𝕄)) (View.set_reshape (v := M.view) h.numel_eq)

/-- Read through the name with the axes it holds the same values as through the name without them, re-indexed. -/
theorem held_squeeze (c : Dev nD) {sp : Space} {sh sh' : Shape} {e : EltTy} (M : Memref sig .tc sp sh e) (h : sh.Squeezes sh')
    (q : PosShare TreeShare) (X : sh'.Idx → Elt F e) :
    (held c (M.squeeze sh' h) q X : sProp 𝕄) ⊢ held c M q (fun i => X ((Shape.reshapeEquiv h.numel_eq).symm i)) := by
  unfold held owns
  iintro ⟨%f, %hf, H⟩
  iexists f
  isplitr
  · ipureintro
    funext i
    rw [← hf]
    show M.view.read (Elt F) f i = M.view.read (Elt F) f (Shape.reshapeEquiv h.numel_eq _)
    rw [Equiv.apply_symm_apply]
  · iapply (Entails.of_eq (set_squeeze c M h q f))
    iexact H

/-! ## The cells -/

/-- The barrier semaphore. -/
abbrev barS : Sem sig := (SemArray.scalar (sig.barrier 0 rfl) : Sems sig S_).sem

/-- A device's cells: the barrier, a tile's, a send's, an arrival's. -/
abbrev Role : Type := Unit ⊕ Fin 8 ⊕ Fin 3 ⊕ Fin 3

abbrev rBar : Role := .inl ()
abbrev rTile (t : Fin 8) : Role := .inr (.inl t)
abbrev rSend (s : Fin 3) : Role := .inr (.inr (.inl s))
abbrev rRecv (s : Fin 3) : Role := .inr (.inr (.inr s))

set_option backward.proofsInPublic true in
abbrev tileS (t : Fin 8) : DmaSem sig := ⟨1 + t.val, by have := t.isLt; show _ < 15; omega⟩
set_option backward.proofsInPublic true in
abbrev sendS (s : Fin 3) : DmaSem sig := ⟨9 + s.val, by have := s.isLt; show _ < 15; omega⟩
set_option backward.proofsInPublic true in
abbrev recvS (s : Fin 3) : DmaSem sig := ⟨12 + s.val, by have := s.isLt; show _ < 15; omega⟩

/-- The semaphore of each role. -/
def csem : Role → SemLoc sig
  | .inl _ => .reg barS
  | .inr (.inl t) => .dma (tileS t)
  | .inr (.inr (.inl s)) => .dma (sendS s)
  | .inr (.inr (.inr s)) => .dma (recvS s)

/-- The cell of each role on each device. -/
abbrev kcell (ck : Dev nD × Role) : GSem nD τ sig := ((ck.1 : Thread nD τ), csem ck.2)

theorem csem_inj : Function.Injective csem := by decide

theorem kcell_inj : Function.Injective (kcell : Dev nD × Role → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The role of a semaphore, if it has one. -/
def roleOf (sm : SemLoc sig) : Option Role := (Finset.univ.filter fun k => csem k = sm).toList.head?

theorem roleOf_csem (k : Role) : roleOf (csem k) = some k := by
  unfold roleOf
  have : (Finset.univ.filter fun k' => csem k' = csem k) = {k} := by
    ext k'; simp [csem_inj.eq_iff]
  rw [this, Finset.toList_singleton]; rfl

/-- What one tile's copy, and one sum's transfer, add to their semaphores. -/
def NT : ℕ := (bQ 0 : Memref sig .tc .vmem S256x1024 .bf16).view.dmaCredit
def NS : ℕ := (cQ 0 : Memref sig .tc .vmem S1x1024 .bf16).view.dmaCredit

theorem NT_pos : 0 < NT := View.dmaCredit_pos _ (by decide)
theorem NS_pos : 0 < NS := View.dmaCredit_pos _ (by decide)

/-- Who contributes to a cell's round: the three others to the barrier, one transfer to any other cell. -/
def dutyOf : Role → Finset (Fin 3)
  | .inl _ => Finset.univ
  | .inr _ => {0}

/-- How much each contribution adds. -/
def amtOf : Role → ℕ
  | .inl _ => 1
  | .inr (.inl _) => NT
  | .inr (.inr _) => NS

/-- How much a round adds in all. -/
def allOf : Role → ℕ
  | .inl _ => 3
  | .inr (.inl _) => NT
  | .inr (.inr _) => NS

/-- What a contribution hands device `c`:
    at the barrier, contribution `e` comes from the device that send number `e` goes to, with the slot to send into;
    a tile's copy hands the tile with the rows in it, and the rows back;
    a send hands back the share of the sum that it read;
    an arrival hands the slot with the sender's sum in it. -/
def payOf (c : Dev nD) : Role → Fin 3 → sProp 𝕄
  | .inl _, e => iprop(∃ X, held (tgt e c) (cT e) fullShare X)
  | .inr (.inl t), _ => iprop(held c (bT t) fullShare (tile m c t) ∗ held c (xT t) fullShare (rows m c t))
  | .inr (.inr (.inl s)), _ => held c eM (third s) (mySum m c)
  | .inr (.inr (.inr s)), _ => held c (cT s) fullShare (slotOf (mySum m (src s c)))

instance payOf_storable (c : Dev nD) (k : Role) (e : Fin 3) : BI.Storable (upEmb : UEmb _ 𝕄) (payOf m c k e) := by
  rcases k with _ | t | s | s <;> unfold payOf held <;> infer_instance

/-- The schedule: one round on every cell of every device. -/
def sched : Rounds.Schedule (GSem nD τ sig) (Fin 3) 𝕄 where
  duties g r := if r = 0 ∧ g.1.2 = .tc then (roleOf g.2).elim ∅ dutyOf else ∅
  unitless _ := False
  amount g _ _ := (roleOf g.2).elim 1 amtOf
  payload g _ d := (roleOf g.2).elim iprop(emp) fun k => payOf m g.1.1 k d
  amount_pos g _ _ _ := by
    cases roleOf g.2 with
    | none => exact Nat.one_pos
    | some k =>
      rcases k with _ | t | s
      · exact Nat.one_pos
      · exact NT_pos
      · exact NS_pos

instance sched_storable (g : GSem nD τ sig) (r : ℕ) (d : Fin 3) :
    BI.Storable (upEmb : UEmb _ 𝕄) ((sched (F := F) m).payload g r d) := by
  show BI.Storable upEmb ((roleOf g.2).elim iprop(emp) fun k => payOf m g.1.1 k d)
  cases roleOf g.2 with
  | none => dsimp only [Option.elim]; infer_instance
  | some k => dsimp only [Option.elim]; infer_instance

section Sched
variable (c : Dev nD) (k : Role)

theorem duties_eq : (sched (F := F) m).duties (kcell (c, k)) 0 = dutyOf k := by
  dsimp only [sched]; rw [if_pos ⟨rfl, rfl⟩, roleOf_csem]; rfl
theorem duties_later (g : GSem nD τ sig) : ∀ r, 1 ≤ r → (sched (F := F) m).duties g r = ∅ :=
  fun r hr => by dsimp only [sched]; exact if_neg fun h => absurd h.1 (by omega)
theorem amount_eq (d : Fin 3) : (sched (F := F) m).amount (kcell (c, k)) 0 d = amtOf k := by
  dsimp only [sched]; rw [roleOf_csem]; rfl
theorem payload_eq (d : Fin 3) : (sched (F := F) m).payload (kcell (c, k)) 0 d = payOf m c k d := by
  dsimp only [sched]; rw [roleOf_csem]; rfl
theorem expect_eq : (sched (F := F) m).expect (kcell (c, k)) 0 = allOf k := by
  unfold Schedule.expect Schedule.amountOf
  rw [duties_eq, Finset.sum_congr rfl fun d _ => amount_eq m c k d, Finset.sum_const, smul_eq_mul]
  rcases k with _ | t | s
  · rfl
  · exact Nat.one_mul _
  · exact Nat.one_mul _
/-- What a cell's whole round hands over. -/
theorem rest_eq : bigSep ((sched (F := F) m).duties (kcell (c, k)) 0 \ ∅) (fun d => (sched (F := F) m).payload (kcell (c, k)) 0 d)
    = bigSep (dutyOf k) fun d => payOf m c k d := by
  rw [Finset.sdiff_empty, duties_eq]
  exact bigSep_congr fun d _ => payload_eq m c k d

end Sched

/-! ## What each device owes at launch, and in which order the waits may be made -/

/-- Device `c` owes the arrival of its send number `s`. -/
abbrev oweR (c : Dev nD) (s : Fin 3) : CellTallies nD τ sig Unit := tallyAt (kcell (tgt s c, rRecv s)) () NS
/-- Device `c` owes contribution `e` to the barrier of the device whose send number `e` comes to it. -/
abbrev oweB (c : Dev nD) (e : Fin 3) : CellTallies nD τ sig Unit := tallyAt (kcell (src e c, rBar)) () 1

/-- What is owed while the three sends are outstanding, -/
def Osend (c : Dev nD) : CellTallies nD τ sig Unit := ((0 + oweR c 2) + oweR c 1) + oweR c 0
/-- and at launch, the three signals outstanding too. -/
def O₀ (c : Dev nD) : CellTallies nD τ sig Unit := ((Osend c + oweB c 0) + oweB c 1) + oweB c 2

def L (g : GSem nD τ sig) : Finset Unit := if g.1.2 = .tc then {()} else ∅
/-- The order of the waits: tiles and sends first, then the barrier, then the arrivals. -/
def lvOf : Role → ℕ
  | .inl _ => 1
  | .inr (.inl _) => 0
  | .inr (.inr (.inl _)) => 0
  | .inr (.inr (.inr _)) => 2
def lv (g : GSem nD τ sig) (_ : Unit) : ℕ := (roleOf g.2).elim 0 lvOf

theorem lv_cell (c : Dev nD) (k : Role) (u : Unit) : lv (kcell (c, k)) u = lvOf k := by
  unfold lv; rw [roleOf_csem]; rfl
theorem L_of_ne (g : GSem nD τ sig) (h : g.1.2 ≠ .tc) : L g = ∅ := if_neg h
theorem L_tc (c : Dev nD) (sm : SemLoc sig) : L ((c : Thread nD τ), sm) = {()} := if_pos rfl

/-- A sum of two tallies is positive only where one of them is. -/
theorem pos_add {A B : CellTallies nD τ sig Unit} {g : GSem nD τ sig} {u : Unit} (h : 0 < (A + B) g u) : 0 < A g u ∨ 0 < B g u := by
  rw [Pi.add_apply, Finsupp.add_apply] at h; omega
theorem pos_tally {g₀ g : GSem nD τ sig} {n : ℕ} {u : Unit} (h : 0 < (tallyAt g₀ () n : CellTallies nD τ sig Unit) g u) : g = g₀ := by
  rw [tallyAt_apply] at h
  by_contra hn
  rw [if_neg fun h' => hn h'.1] at h
  exact Nat.lt_irrefl 0 h

theorem Osend_pos {c : Dev nD} {g : GSem nD τ sig} {u : Unit} (h : 0 < Osend c g u) : ∃ d s, g = kcell (d, rRecv s) := by
  unfold Osend at h
  rcases pos_add h with h | h
  · rcases pos_add h with h | h
    · rcases pos_add h with h | h
      · exact absurd h (Nat.lt_irrefl 0)
      · exact ⟨_, _, pos_tally h⟩
    · exact ⟨_, _, pos_tally h⟩
  · exact ⟨_, _, pos_tally h⟩

theorem O₀_pos {c : Dev nD} {g : GSem nD τ sig} {u : Unit} (h : 0 < O₀ c g u) :
    (∃ d s, g = kcell (d, rRecv s)) ∨ ∃ d, g = kcell (d, rBar) := by
  unfold O₀ at h
  rcases pos_add h with h | h
  · rcases pos_add h with h | h
    · rcases pos_add h with h | h
      · exact Or.inl (Osend_pos h)
      · exact Or.inr ⟨_, pos_tally h⟩
    · exact Or.inr ⟨_, pos_tally h⟩
  · exact Or.inr ⟨_, pos_tally h⟩

/-- A wait on a cell of level `n` may be made by a device all of whose debts lie on cells of higher levels. -/
theorem mayWait_below (c : Dev nD) (sm : SemLoc sig) (n : ℕ) (hn : lv ((c : Thread nD τ), sm) () ≤ n) (O : CellTallies nD τ sig Unit)
    (hO : ∀ g u, 0 < O g u → ∃ ck, g = kcell ck ∧ n < lvOf ck.2) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨ck, rfl, -⟩ := hO g u hg; rw [L_tc]; exact Finset.mem_singleton_self _)
    (fun p hp => by rw [Finset.mem_singleton.mp hp]; exact hn)
    (fun g u hg => by obtain ⟨ck, rfl, h⟩ := hO g u hg; rw [show lv (kcell ck) u = lvOf ck.2 from lv_cell ck.1 ck.2 u]; exact h)

/-- While only sends are outstanding, every cell but an arrival's may be waited on; -/
theorem mayWait_send (c : Dev nD) (k : Role) (hk : lvOf k ≤ 1) :
    (levAts L lv : sProp 𝕄) ⊢ MayWait (c : Thread nD τ) (csem k) () (Osend c) :=
  mayWait_below c (csem k) 1 (by rw [show lv ((c : Thread nD τ), csem k) () = lvOf k from lv_cell c k ()]; exact hk) _ fun g u h => by
    obtain ⟨d, s, rfl⟩ := Osend_pos h; exact ⟨_, rfl, by show 1 < 2; omega⟩
/-- with nothing outstanding, every cell. -/
theorem mayWait_none (c : Dev nD) (sm : SemLoc sig) : (levAts L lv : sProp 𝕄) ⊢ MayWait (c : Thread nD τ) sm () 0 := by
  rw [MayWait_zero]; iintro -; iempintro
/-- The staging's wait may be made at any time. -/
theorem mayWait_stage (c : Dev nD) (sm : SemLoc sig) (hq : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine mayWait_below c sm 0 (le_of_eq hq) _ fun g u h => ?_
    rcases O₀_pos h with ⟨d, s, rfl⟩ | ⟨d, rfl⟩
    · exact ⟨_, rfl, by show 0 < 2; omega⟩
    · exact ⟨_, rfl, by show 0 < 1; omega⟩
  · exact mayWait_none c sm

end Cert.KernelIdealRun

end
-- ==== Proof.KernelIdealSteps.lean ====
/-
# One rule for each kind of step

The kernel starts eight copies, waits for eight copies, loads eight tiles, signals three times, sends three times and
waits for three sends and three arrivals. Here each kind of step has one rule, stated for every tile `t` or every send
`s`; the body's proof applies it in program order.
-/
module

public import proofs.«01_k».proof.Proof.KernelIdealProtocol

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Role → ℕ)

/-- Every tile's copy is worth the same on its counter. -/
theorem NT_eq (t : Fin 8) : (bQ t : Memref sig .tc .vmem S256x1024 .bf16).view.dmaCredit = NT := rfl
/-- Every send is worth the same at the arrival, … -/
theorem NS_eq (s : Fin 3) : (cQ s : Memref sig .tc .vmem S1x1024 .bf16).view.dmaCredit = NS := rfl
/-- … and as much as the whole of what is sent. -/
theorem NS_eM : (eM : Memref sig .tc .vmem S1x1024 .bf16).view.dmaCredit = NS := by
  unfold NS; decide

abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- Every cell of every device follows the schedule, and is at its first round or beyond. -/
def records : sProp 𝕄 :=
  iprop((bigSep Finset.univ fun ck : Dev nD × Role => cellInv ER (sched m) (K ck) (kcell ck))
    ∗ bigSep Finset.univ fun ck : Dev nD × Role => reached ER (kcell ck) 0)

instance records_persistent : BI.Persistent (records m K) := by unfold records; infer_instance

theorem records_inv (ck : Dev nD × Role) : records m K ⊢ cellInv ER (sched m) (K ck) (kcell ck) :=
  (sep_elim_left).trans (bigSep_elim (Finset.mem_univ ck))

theorem records_reached (ck : Dev nD × Role) : records m K ⊢ reached ER (kcell ck) 0 :=
  (sep_elim_right).trans (bigSep_elim (Finset.mem_univ ck))

/-- Device `c` owes `O`, whatever it has waited for. -/
def Owes (c : Dev nD) (O : CellTallies nD τ sig Unit) : sProp 𝕄 := iprop(∃ W, owes (c : Thread nD τ) O W)

/-! ## What the contributions hand over -/

/-- A signal hands the slot that the signalled device sends into, here seen by the device that signals. -/
theorem pay_bar (c : Dev nD) (e : Fin 3) : payOf m (src e c) rBar e = iprop(∃ X, held c (cT e) fullShare X) := by
  rw [show payOf m (src e c) rBar e = iprop(∃ X, held (tgt e (src e c)) (cT e) fullShare X) from rfl, tgt_src]
/-- A tile's copy hands the rows in the scratch, and the rows they were copied from. -/
theorem pay_tile (c : Dev nD) (t : Fin 8) : payOf m c (rTile t) 0
    = iprop(held c (bT t) fullShare (tile m c t) ∗ held c (xT t) fullShare (rows m c t)) := rfl
/-- A send hands its sender the third it lent. -/
theorem pay_send (c : Dev nD) (s : Fin 3) : payOf m c (rSend s) 0 = held c eM (third s) (mySum m c) := rfl
/-- An arrival hands the slot at the sender's sum, -/
theorem pay_recv (c : Dev nD) (s : Fin 3) : payOf m c (rRecv s) 0 = held c (cT s) fullShare (slotOf (mySum m (src s c))) := rfl
/-- … seen by the sender: at its own sum. -/
theorem pay_sent (c : Dev nD) (s : Fin 3) : payOf m (tgt s c) (rRecv s) 0 = held (tgt s c) (cT s) fullShare (slotOf (mySum m c)) := by
  rw [pay_recv, src_tgt]
/-- A round with one contribution hands just that. -/
theorem pay_one (c : Dev nD) (k : Role) (hk : dutyOf k = {0}) : (bigSep (dutyOf k) fun d => payOf m c k d) = payOf m c k 0 := by
  rw [hk, bigSep_singleton]

/-! ## Waiting -/

/-- A wait for the whole round of a cell: it hands over what the round's contributions hand, and the counter, back at
    zero, is the device's own again. -/
theorem wp_wait_cell (c : Dev nD) (k : Role) (O : CellTallies nD τ sig Unit) {w : TpuEff nD τ sig (Elt F) Λ₀ .tc PUnit} {n : ℕ}
    {sm : SemLoc sig} (hsm : sm = csem k) (hn : n = allOf k)
    (hw : ∀ K' : PUnit → sProp 𝕄, wpE (defs₀ (F := F)) 𝒱₀ (c : Thread nD τ) none Set.univ w K'
      = waitSpec (c : Thread nD τ) Set.univ sm n K')
    (hO : (levAts L lv : sProp 𝕄) ⊢ MayWait (c : Thread nD τ) (csem k) () O)
    {α : Type} {Q : α → sProp 𝕄} {p : PUnit → Prog (TpuEff nD τ sig (Elt F) Λ₀ .tc) α} :
    iprop(records m K ∗ levAts L lv ∗ Owes c O ∗ atPos ER (kcell (c, k)) 0 ∅ 0 ∗ cred (tallyAt (kcell (c, k)) () (allOf k)))
      ⊢ iprop(((Owes c O ∗ semVal (kcell (c, k)) 0 ∗ bigSep (dutyOf k) fun d => payOf m c k d) -∗ wpc c (p ⟨⟩) Q)
          -∗ wpc c (.op w p) Q) := by
  subst hsm hn
  unfold Owes
  iintro ⟨#HR, #Hlev, ⟨%W, HO⟩, Hat, Hc⟩
  iintro Hk
  iapply (Rounds.wp_wait_rest_token 𝒱₀ ER (sched m) (c : Thread nD τ) none (κ := K (c, k)) hw (Set.mem_univ _) () (O := O) (W := W)
      (R := 0) (m := 0) (T := ∅) (by rw [Nat.zero_add]; exact (expect_eq m c k).symm)) $$ [HO Hat Hc]
  · isplitr; · iapply (records_inv m K (c, k)); iexact HR
    isplitl [Hc]; · iexact Hc
    isplitl [HO]; · iexact HO
    isplitr; · iapply hO; iexact Hlev
    iexact Hat
  iintro ⟨HO, Hat, -, Hpay⟩
  imod (Rounds.cell_close ER (sched m) (Set.mem_univ (K (c, k))) (fun h => h) (R := 0 + 1) (duties_later m (kcell (c, k)))) $$ [Hat] with Hz
  · isplitr; · iapply (records_inv m K (c, k)); iexact HR
    iexact Hat
  iapply Hk
  isplitl [HO]; · iexists _; iexact HO
  isplitl [Hz]; · iexact Hz
  iapply (Entails.of_eq (rest_eq m c k)); iexact Hpay

/-! ## The tiles -/

/-- Tile `t` before its copy is started: the rows, the scratch's tile at any contents, and the right to announce. -/
def Queued (c : Dev nD) (t : Fin 8) : sProp 𝕄 :=
  iprop(atPos ER (kcell (c, rTile t)) 0 ∅ 0 ∗ dutyTok ER (kcell (c, rTile t)) 0 0
    ∗ held c (xT t) fullShare (rows m c t) ∗ ∃ X, held c (bT t) fullShare X)
/-- Tile `t` while its copy is under way. -/
def Flying (c : Dev nD) (t : Fin 8) : sProp 𝕄 :=
  iprop(atPos ER (kcell (c, rTile t)) 0 ∅ 0 ∗ cred (tallyAt (kcell (c, rTile t)) () NT))
/-- Tile `t` after its copy was waited for: the rows in the scratch, the rows still in place, the counter at zero. -/
def Landed (c : Dev nD) (t : Fin 8) : sProp 𝕄 :=
  iprop(held c (bT t) fullShare (tile m c t) ∗ held c (xT t) fullShare (rows m c t) ∗ semVal (kcell (c, rTile t)) 0)

/-- Starting the copy of tile `t`. -/
theorem wp_copy_tile (c : Dev nD) (t : Fin 8) {xs : Memref sig .tc .hbm S256x1024 .bf16} {bs : Memref sig .tc .vmem S256x1024 .bf16} {q : DmaSem sig}
    (hx : xs = xT t) (hb : bs = bQ t) (hs : q = tileS t)
    {hsrc : xs.view.WordExact} {hdst : bs.view.WordExact} {hsem : DmaTarget.Typed (nD := nD) .hbm (.dma q) (DmaTarget.here (p := (Dev.tc c : Thread nD τ).2) bs)}
    {α : Type} {Q : α → sProp 𝕄} {p : PUnit → Prog (TpuEff nD τ sig (Elt F) Λ₀ .tc) α} :
    iprop(records m K ∗ Queued m c t)
      ⊢ iprop((Flying c t -∗ wpc c (p ⟨⟩) Q) -∗ wpc c (.op (.enqueueDma xs (.here bs) (.dma q) hsrc hdst hsem) p) Q) := by
  subst hx hb hs
  unfold Queued Flying
  iintro ⟨#HR, Hat, Htok, Hx, ⟨%X, Hb⟩⟩
  iintro Hk
  unfold held owns
  icases Hx with ⟨%fx, %hfx, Hx⟩
  icases Hb with ⟨%fb, %hfb, Hb⟩
  ihave Hb' := (Entails.of_eq (set_squeeze c (bT t) squeezes_S1x256x1024_S256x1024 fullShare fb).symm) $$ Hb
  iapply (Rounds.wp_copy_pointsTo 𝒱₀ ER (sched m) (c : Thread nD τ) none (κ := K (c, rTile t)) (fs := fx) (fd := fb) (q := fullShare) (r := 0) (d := 0)
      (sem := csem (rTile t)) (by rw [duties_eq]; exact Finset.mem_singleton_self _) () NT (NT_eq t) (amount_eq m c (rTile t) 0)
      (by
        rw [show (sched m).payload ((c : Thread nD τ), csem (rTile t)) 0 0 = _ from (payload_eq m c (rTile t) 0).trans (pay_tile m c t)]
        iintro ⟨Hb, Hx⟩
        isplitl [Hb]
        · iapply (held_squeeze c (bT t) squeezes_S1x256x1024_S256x1024 fullShare (rows m c t))
          unfold held owns
          iexists ((bQ t : Memref sig .tc .vmem S256x1024 .bf16).view.write (Elt F) fb ((xT t).view.read (Elt F) fx) Finset.univ)
          isplitr
          · ipureintro; exact (View.read_write_univ (v := (bQ t).view) fb _).trans hfx
          · iexact Hb
        · unfold held owns
          iexists fx
          isplitr
          · ipureintro; exact hfx
          · iexact Hx)) $$ [Htok Hx Hb']
  · isplitr; · iapply (records_inv m K (c, rTile t)); iexact HR
    isplitl [Hx]; · iexact Hx
    isplitl [Hb']; · iexact Hb'
    isplitl [Htok]; · iexact Htok
    iapply (records_reached m K (c, rTile t)); iexact HR
  iintro Hc
  iapply Hk
  isplitl [Hat]; · iexact Hat
  iexact Hc

/-- Waiting for the copy of tile `t`, while at most sends are outstanding. -/
theorem wp_wait_tile (c : Dev nD) (t : Fin 8) {xs : Memref sig .tc .hbm S256x1024 .bf16} {bs : Memref sig .tc .vmem S256x1024 .bf16} {q : DmaSem sig}
    (hb : bs = bQ t) (hs : q = tileS t) {h₁ : xs.view.WordExact} {h₂ : bs.view.WordExact}
    {α : Type} {Q : α → sProp 𝕄} {p : PUnit → Prog (TpuEff nD τ sig (Elt F) Λ₀ .tc) α} :
    iprop(records m K ∗ levAts L lv ∗ Owes c (Osend c) ∗ Flying c t)
      ⊢ iprop(((Owes c (Osend c) ∗ Landed m c t) -∗ wpc c (p ⟨⟩) Q) -∗ wpc c (.op (.waitDma2 q xs bs h₁ h₂) p) Q) := by
  subst hb hs
  unfold Flying Landed
  iintro ⟨#HR, #Hlev, HO, Hat, Hc⟩
  iintro Hk
  iapply (wp_wait_cell m K c (rTile t) (Osend c) rfl (NT_eq t) (wpE_waitDma2_eq 𝒱₀ (c : Thread nD τ) none Set.univ) (mayWait_send c (rTile t) (Nat.zero_le _))) $$ [HO Hat Hc]
  · isplitr; · iexact HR
    isplitr; · iexact Hlev
    isplitl [HO]; · iexact HO
    isplitl [Hat]; · iexact Hat
    iexact Hc
  iintro ⟨HO, Hz, Hp⟩
  ihave Hp' := (Entails.of_eq ((pay_one m c (rTile t) rfl).trans (pay_tile m c t))) $$ Hp
  icases Hp' with ⟨Hb, Hx⟩
  iapply Hk
  isplitl [HO]; · iexact HO
  isplitl [Hb]; · iexact Hb
  isplitl [Hx] <;> iassumption

/-- Reading a piece of a buffer held by that piece: the program goes on at what the piece holds. -/
theorem wp_load_held (c : Dev nD) {sh : Shape} {e : EltTy} (M : Memref sig .tc .vmem sh e) (r : Rect sh) (hr : ∀ a, r.stride a = 1)
    {hl : M.view.LoadsAt r.toLoadRect} (q : PosShare TreeShare) (X : r.shape.Idx → Elt F e)
    {α : Type} {Q : α → sProp 𝕄} {p : (r.shape.Idx → Elt F e) → Prog (TpuEff nD τ sig (Elt F) Λ₀ .tc) α} :
    held c (M.slice r hr) q X
      ⊢ iprop((held c (M.slice r hr) q X -∗ wpc c (p X) Q) -∗ wpc c (.op (.load M r.toLoadRect hl) p) Q) := by
  unfold held owns
  iintro ⟨%f, %hf, H⟩
  iintro Hk
  iapply (wp_load_rect 𝒱₀ (c : Thread nD τ) none Set.univ (m := M) (r := r) (f := f) (q := q) (S := (M.slice r hr).view.set) (Finset.Subset.refl _)) $$ H
  iintro H
  subst hf
  iapply Hk
  iexists f
  isplitr; · ipureintro; rfl
  iexact H

/-! ## The signals -/

/-- Telling the device whose send number `e` comes here that it may send: its barrier's contribution `e`, with the
    slot it sends into. -/
theorem wp_signal_ready (c n : Dev nD) (e : Fin 3) (hn : n = src e c) (O : CellTallies nD τ sig Unit)
    {α : Type} {Q : α → sProp 𝕄} {p : PUnit → Prog (TpuEff nD τ sig (Elt F) Λ₀ .tc) α} :
    iprop(records m K ∗ Owes c (O + oweB c e) ∗ dutyTok ER (kcell (src e c, rBar)) 0 e ∗ ∃ X, held c (cT e) fullShare X)
      ⊢ iprop((Owes c O -∗ wpc c (p ⟨⟩) Q) -∗ wpc c (.op (.semSignal (Dev.tc n : Thread nD τ) barS 1) p) Q) := by
  subst hn
  unfold Owes
  iintro ⟨#HR, ⟨%W, HO⟩, Htok, Hc⟩
  iintro Hk
  iapply (Rounds.wp_signal 𝒱₀ ER (sched m) (c : Thread nD τ) none (dst := (src e c : Thread nD τ)) (sem := barS) (κ := K (src e c, rBar)) (r := 0)
      (d := e) (k' := 1) (by rw [show ((src e c : Thread nD τ), SemLoc.reg barS) = kcell (src e c, rBar) from rfl, duties_eq]; exact Finset.mem_univ _)
      (amount_eq m (src e c) rBar e) () O rfl (W := W)) $$ [HO Htok Hc]
  · isplitr; · iapply (records_inv m K (src e c, rBar)); iexact HR
    isplitl [HO]; · iexact HO
    isplitl [Htok]; · iexact Htok
    isplitl [Hc]
    · iapply (Entails.of_eq (show payOf m (src e c) rBar e = (sched m).payload ((src e c : Thread nD τ), SemLoc.reg barS) 0 e
        from (payload_eq m (src e c) rBar e).symm))
      rw [pay_bar]
      iexact Hc
    · iapply (records_reached m K (src e c, rBar)); iexact HR
  iintro HO
  iapply Hk
  iexists W; iexact HO

/-- Waiting for the three others: the slots to send into come with it. -/
theorem wp_wait_ready (c : Dev nD)
    {α : Type} {Q : α → sProp 𝕄} {p : PUnit → Prog (TpuEff nD τ sig (Elt F) Λ₀ .tc) α} :
    iprop(records m K ∗ levAts L lv ∗ Owes c (Osend c) ∗ atPos ER (kcell (c, rBar)) 0 ∅ 0 ∗ cred (tallyAt (kcell (c, rBar)) () 3))
      ⊢ iprop(((Owes c (Osend c) ∗ semVal (kcell (c, rBar)) 0 ∗ bigSep Finset.univ fun e : Fin 3 => iprop(∃ X, held (tgt e c) (cT e) fullShare X)) -∗ wpc c (p ⟨⟩) Q)
          -∗ wpc c (.op (.semWait barS 3) p) Q) :=
  wp_wait_cell m K c rBar (Osend c) (n := 3) rfl rfl (wpE_semWait_eq 𝒱₀ (c : Thread nD τ) none Set.univ) (mayWait_send c rBar (Nat.le_refl _))

/-! ## The sends -/

/-- What device `c` needs for its send number `s`. -/
def Ready (c : Dev nD) (s : Fin 3) : sProp 𝕄 :=
  iprop(atPos ER (kcell (c, rSend s)) 0 ∅ 0 ∗ dutyTok ER (kcell (c, rSend s)) 0 0 ∗ dutyTok ER (kcell (tgt s c, rRecv s)) 0 0)
/-- What it has while the send is under way. -/
def Sent (c : Dev nD) (s : Fin 3) : sProp 𝕄 :=
  iprop(atPos ER (kcell (c, rSend s)) 0 ∅ 0 ∗ cred (tallyAt (kcell (c, rSend s)) () NS))
/-- What it has of the send that comes to it. -/
def Awaited (c : Dev nD) (s : Fin 3) : sProp 𝕄 :=
  iprop(atPos ER (kcell (c, rRecv s)) 0 ∅ 0 ∗ cred (tallyAt (kcell (c, rRecv s)) () NS))

/-- Send number `s`: a third of the sum is lent, the slot at the receiver is given up. -/
theorem wp_send_sum (c n : Dev nD) (s : Fin 3) (hn : n = tgt s c) (O : CellTallies nD τ sig Unit)
    {es : Memref sig .tc .vmem S1x1024 .bf16} {cs : Memref sig (Dev.tc n : Thread nD τ).2.kind .vmem S1x1024 .bf16} {qS qR : DmaSem sig}
    (he : es = eM) (hc : cs = cQ s) (hS : qS = sendS s) (hR : qR = recvS s)
    {hsc : cs.view.ref.isScScratch = false}
    {hsrc : es.view.WordExact} {hdst : cs.view.WordExact} {hsem : DmaTarget.Typed .vmem (.dma qR) (.remote (Dev.tc n : Thread nD τ) cs (.dma qS) hsc)}
    {α : Type} {Q : α → sProp 𝕄} {p : PUnit → Prog (TpuEff nD τ sig (Elt F) Λ₀ .tc) α} :
    iprop(records m K ∗ Owes c (O + oweR c s) ∗ Ready c s ∗ held c eM (third s) (mySum m c) ∗ ∃ X, held (tgt s c) (cT s) fullShare X)
      ⊢ iprop(((Owes c O ∗ Sent c s) -∗ wpc c (p ⟨⟩) Q)
          -∗ wpc c (.op (.enqueueDma es (.remote (Dev.tc n : Thread nD τ) cs (.dma qS) hsc) (.dma qR) hsrc hdst hsem) p) Q) := by
  subst hn
  subst he hc hS hR
  unfold Owes Ready Sent
  iintro ⟨#HR, ⟨%W, HO⟩, ⟨Hat, HtS, HtR⟩, He, ⟨%X, Hc⟩⟩
  iintro Hk
  unfold held owns
  icases He with ⟨%fe, %hfe, He⟩
  icases Hc with ⟨%fc, %hfc, Hc⟩
  ihave Hc' := (Entails.of_eq (set_squeeze (tgt s c) (cT s) squeezes_S1x1x1024_S1x1024 fullShare fc).symm) $$ Hc
  iapply (Rounds.wp_send_pointsTo 𝒱₀ ER (sched m) (c : Thread nD τ) none (c' := (tgt s c : Thread nD τ)) (κ₁ := K (c, rSend s)) (κ₂ := K (tgt s c, rRecv s))
      (sS := csem (rSend s)) (sem := csem (rRecv s)) (q := third s) (fs := fe) (fd := fc) (r₁ := 0) (r₂ := 0) (d₁ := 0) (d₂ := 0)
      (by rw [duties_eq]; exact Finset.mem_singleton_self _) (by rw [duties_eq]; exact Finset.mem_singleton_self _)
      () () NS (NS_eq s) (amount_eq m c (rSend s) 0) (amount_eq m (tgt s c) (rRecv s) 0) O rfl (W := W)
      (by
        rw [show (sched m).payload ((c : Thread nD τ), csem (rSend s)) 0 0 = _ from (payload_eq m c (rSend s) 0).trans (pay_send m c s)]
        iintro He
        unfold held owns
        iexists fe
        isplitr; · ipureintro; exact hfe
        iexact He)
      (by
        rw [show (sched m).payload ((tgt s c : Thread nD τ), csem (rRecv s)) 0 0 = _ from (payload_eq m (tgt s c) (rRecv s) 0).trans (pay_sent m c s)]
        iintro Hc
        iapply (held_squeeze (tgt s c) (cT s) squeezes_S1x1x1024_S1x1024 fullShare (mySum m c))
        unfold held owns
        iexists ((cQ s : Memref sig .tc .vmem S1x1024 .bf16).view.write (Elt F) fc (eM.view.read (Elt F) fe) Finset.univ)
        isplitr
        · ipureintro; exact (View.read_write_univ (v := (cQ s).view) fc _).trans hfe
        · iexact Hc)) $$ [HO HtS HtR He Hc']
  · isplitr; · iapply (records_inv m K (c, rSend s)); iexact HR
    isplitr; · iapply (records_inv m K (tgt s c, rRecv s)); iexact HR
    isplitl [He]; · iexact He
    isplitl [Hc']; · iexact Hc'
    isplitl [HO]; · iexact HO
    isplitl [HtS]; · iexact HtS
    isplitr; · iapply (records_reached m K (c, rSend s)); iexact HR
    isplitl [HtR]; · iexact HtR
    iapply (records_reached m K (tgt s c, rRecv s)); iexact HR
  iintro ⟨Hcr, HO⟩
  iapply Hk
  isplitl [HO]; · iexists W; iexact HO
  isplitl [Hat] <;> iassumption

/-- Waiting for one's own send number `s`: the lent third is back. -/
theorem wp_wait_send (c : Dev nD) (s : Fin 3) {xs : Memref sig .tc .vmem S1x1024 .bf16} {bs : Memref sig .tc .vmem S1x1024 .bf16} {q : DmaSem sig}
    (hb : bs = eM) (hs : q = sendS s) {h₁ : xs.view.WordExact} {h₂ : bs.view.WordExact}
    {α : Type} {Q : α → sProp 𝕄} {p : PUnit → Prog (TpuEff nD τ sig (Elt F) Λ₀ .tc) α} :
    iprop(records m K ∗ levAts L lv ∗ Owes c 0 ∗ Sent c s)
      ⊢ iprop(((Owes c 0 ∗ semVal (kcell (c, rSend s)) 0 ∗ held c eM (third s) (mySum m c)) -∗ wpc c (p ⟨⟩) Q)
          -∗ wpc c (.op (.waitDma2 q xs bs h₁ h₂) p) Q) := by
  subst hb hs
  unfold Sent
  iintro ⟨#HR, #Hlev, HO, Hat, Hc⟩
  iintro Hk
  iapply (wp_wait_cell m K c (rSend s) 0 rfl NS_eM (wpE_waitDma2_eq 𝒱₀ (c : Thread nD τ) none Set.univ) (mayWait_none c _)) $$ [HO Hat Hc]
  · isplitr; · iexact HR
    isplitr; · iexact Hlev
    isplitl [HO]; · iexact HO
    isplitl [Hat]; · iexact Hat
    iexact Hc
  iintro ⟨HO, Hz, Hp⟩
  ihave Hp' := (Entails.of_eq ((pay_one m c (rSend s) rfl).trans (pay_send m c s))) $$ Hp
  iapply Hk
  isplitl [HO]; · iexact HO
  isplitl [Hz]; · iexact Hz
  iexact Hp'

/-- Waiting for the arrival of the send number `s` that comes here: the slot holds the sender's sum. -/
theorem wp_wait_recv (c : Dev nD) (s : Fin 3) {xs : Memref sig .tc .vmem S1x1024 .bf16} {bs : Memref sig .tc .vmem S1x1024 .bf16} {q : DmaSem sig}
    (hb : bs = cQ s) (hs : q = recvS s) {h₁ : xs.view.WordExact} {h₂ : bs.view.WordExact}
    {α : Type} {Q : α → sProp 𝕄} {p : PUnit → Prog (TpuEff nD τ sig (Elt F) Λ₀ .tc) α} :
    iprop(records m K ∗ levAts L lv ∗ Owes c 0 ∗ Awaited c s)
      ⊢ iprop(((Owes c 0 ∗ semVal (kcell (c, rRecv s)) 0 ∗ held c (cT s) fullShare (slotOf (mySum m (src s c)))) -∗ wpc c (p ⟨⟩) Q)
          -∗ wpc c (.op (.waitDma2 q xs bs h₁ h₂) p) Q) := by
  subst hb hs
  unfold Awaited
  iintro ⟨#HR, #Hlev, HO, Hat, Hc⟩
  iintro Hk
  iapply (wp_wait_cell m K c (rRecv s) 0 rfl (NS_eq s) (wpE_waitDma2_eq 𝒱₀ (c : Thread nD τ) none Set.univ) (mayWait_none c _)) $$ [HO Hat Hc]
  · isplitr; · iexact HR
    isplitr; · iexact Hlev
    isplitl [HO]; · iexact HO
    isplitl [Hat]; · iexact Hat
    iexact Hc
  iintro ⟨HO, Hz, Hp⟩
  ihave Hp' := (Entails.of_eq ((pay_one m c (rRecv s) rfl).trans (pay_recv m c s))) $$ Hp
  iapply Hk
  isplitl [HO]; · iexact HO
  isplitl [Hz]; · iexact Hz
  iexact Hp'

end Cert.KernelIdealRun

end
-- ==== Proof.KernelIdealBody.lean ====
/-
# The body of one device

The body at a symbolic device, one rule per step in program order. It takes the rows apart into eight tiles and the landing
buffer into three slots, and ends with the device's result in the output buffer.
-/
module

public import proofs.«01_k».proof.Proof.KernelIdealSteps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Role → ℕ)

/-! ## The devices the program names -/

theorem dev1_eq (c : Dev nD) : (⟨k0_dev1 c, k0_dev1_lt c⟩ : Dev nD) = src 2 c := by revert c; decide
theorem dev2_eq (c : Dev nD) : (⟨k0_dev2 c, k0_dev2_lt c⟩ : Dev nD) = src 1 c := by revert c; decide
theorem dev3_eq (c : Dev nD) : (⟨k0_dev3 c, k0_dev3_lt c⟩ : Dev nD) = src 0 c := by revert c; decide
theorem dev4_eq (c : Dev nD) : (⟨k0_dev4 c, k0_dev4_lt c⟩ : Dev nD) = tgt 0 c := by revert c; decide
theorem dev5_eq (c : Dev nD) : (⟨k0_dev5 c, k0_dev5_lt c⟩ : Dev nD) = tgt 1 c := by revert c; decide
theorem dev6_eq (c : Dev nD) : (⟨k0_dev6 c, k0_dev6_lt c⟩ : Dev nD) = tgt 2 c := by revert c; decide

/-! ## Loads and stores of a row held whole -/

/-- The rectangle over a whole row. -/
abbrev allR : Rect S1x1024 := Rect.unit (s := S1x1024) ![0, 0] S1x1024.size inb_S1x1024_S1x1024_0_0

theorem allR_emb (x : S1x1024.Idx) : allR.emb x = x := by
  have h : (![0, 0] : Fin 2 → Nat) = fun _ => 0 := funext fun a => by fin_cases a <;> rfl
  have key : ∀ (off : Fin 2 → Nat) (ho : off = fun _ => 0) (inb : ∀ a, off a + S1x1024.size a ≤ S1x1024.size a),
      (Rect.unit (s := S1x1024) off S1x1024.size inb).emb x = x := by
    intro off ho inb; subst ho; exact Rect.emb_whole_apply S1x1024 x
  exact key _ h _

/-- Reading through that rectangle is reading the row. -/
theorem read_allR (M : Memref sig .tc .vmem S1x1024 .bf16) (f : M.view.ty.Contents (Elt F)) :
    (M.view.slice allR).read (Elt F) f = M.view.read (Elt F) f := by
  funext x
  exact congrArg (M.view.read (Elt F) f) (allR_emb x)

/-- Loading a row. -/
theorem wp_load_row (c : Dev nD) (M : Memref sig .tc .vmem S1x1024 .bf16) (q : PosShare TreeShare) (X : S1x1024.Idx → Elt F .bf16)
    {hl : M.view.LoadsAt allR.toLoadRect}
    {α : Type} {Q : α → sProp 𝕄} {p : (S1x1024.Idx → Elt F .bf16) → Prog (TpuEff nD τ sig (Elt F) Λ₀ .tc) α} :
    held c M q X
      ⊢ iprop((held c M q X -∗ wpc c (p X) Q) -∗ wpc c (.op (.load M allR.toLoadRect hl) p) Q) := by
  unfold held owns
  iintro ⟨%f, %hf, H⟩
  iintro Hk
  iapply (wp_load_rect 𝒱₀ (c : Thread nD τ) none Set.univ (m := M) (r := allR) (View.set_slice_subset M.view allR)) $$ H
  iintro H
  rw [show (M.access allR).read (Elt F) f = X from (read_allR M f).trans hf]
  iapply Hk
  iexists f
  isplitr; · ipureintro; exact hf
  iexact H

/-- Storing a row. -/
theorem wp_store_row (c : Dev nD) (M : Memref sig .tc .vmem S1x1024 .bf16) (X w : S1x1024.Idx → Elt F .bf16)
    {hs : (M.access allR).Stores Finset.univ} {hm : (Finset.univ : Finset allR.shape.Idx) = Finset.univ ∨ ∀ a, allR.stride a = 1}
    {α : Type} {Q : α → sProp 𝕄} {p : PUnit → Prog (TpuEff nD τ sig (Elt F) Λ₀ .tc) α} :
    held c M fullShare X
      ⊢ iprop((held c M fullShare w -∗ wpc c (p ⟨⟩) Q) -∗ wpc c (.op (.store M allR w Finset.univ hs hm) p) Q) := by
  unfold held owns
  iintro ⟨%f, -, H⟩
  iintro Hk
  iapply (wp_store 𝒱₀ (c : Thread nD τ) none Set.univ (m := M) (r := allR) (w := w) (f := f) (Mk := Finset.univ)
    (View.set_slice_subset M.view allR)) $$ H
  iintro H
  iapply Hk
  iexists ((M.access allR).write (Elt F) f w Finset.univ)
  isplitr
  · ipureintro
    exact (read_allR M _).symm.trans (View.read_write_univ (v := M.view.slice allR) f w)
  iexact H

/-! ## Sharing the own sum among the three sends -/

/-- The sum held outright is the sum held by thirds. -/
theorem sum_thirds (c : Dev nD) (X : S1x1024.Idx → Elt F .bf16) :
    (held c eM fullShare X : sProp 𝕄) = iprop(held c eM (third 0) X ∗ held c eM (third 1) X ∗ held c eM (third 2) X) := by
  unfold held
  rw [owns_whole, owns_whole, owns_whole, owns_whole]
  exact (Transfers.pointsTo_deal Finset.univ Finset.univ_nonempty fullShare).trans (Ring.bigSep_fin3 _)

/-! ## The body -/

/-- The eight tiles' resources one by one. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What one device's signal number `e` needs: the right to make it, and the slot that it hands over. -/
def Offer (c : Dev nD) (e : Fin 3) : sProp 𝕄 :=
  iprop(dutyTok ER (kcell (src e c, rBar)) 0 e ∗ ∃ X, held c (cT e) fullShare X)

/-- A send that was waited for: its counter is at zero. An arrival that was waited for: that, and the slot. -/
def Back (c : Dev nD) (s : Fin 3) : sProp 𝕄 := semVal (kcell (c, rSend s)) 0
def Arrived (c : Dev nD) (s : Fin 3) : sProp 𝕄 :=
  iprop(semVal (kcell (c, rRecv s)) 0 ∗ held c (cT s) fullShare (slotOf (mySum m (src s c))))

/-- What the body of device `c` starts from, beside what every device knows. -/
def coreIn (c : Dev nD) : sProp 𝕄 :=
  iprop(Owes c (O₀ c) ∗ (bigSep Finset.univ fun t => Queued m c t) ∗ (bigSep Finset.univ fun e => Offer c e)
    ∗ (atPos ER (kcell (c, rBar)) 0 ∅ 0 ∗ cred (tallyAt (kcell (c, rBar)) () 3))
    ∗ (bigSep Finset.univ fun s => Ready c s) ∗ (bigSep Finset.univ fun s => Awaited c s)
    ∗ (∃ X, held c eM fullShare X) ∗ ∃ Y, held c oM fullShare Y)

/-- What it ends with. -/
def coreOut (c : Dev nD) : sProp 𝕄 :=
  iprop(Owes c 0 ∗ (bigSep Finset.univ fun t => Landed m c t) ∗ semVal (kcell (c, rBar)) 0
    ∗ (bigSep Finset.univ fun s => Back c s) ∗ (bigSep Finset.univ fun s => Arrived m c s)
    ∗ held c eM fullShare (mySum m c) ∗ held c oM fullShare (outAt m c))

set_option maxHeartbeats 4000000 in
/-- The body of device `c`, step by step. -/
theorem sound_core (c : Dev nD) (Q : PUnit → sProp 𝕄) :
    iprop(records m K ∗ levAts L lv ∗ coreIn m c ∗ (coreOut m c -∗ Q ⟨⟩))
      ⊢ wpc c (cc0_body xM (Memref.isWhole_whole _) oM (Memref.isWhole_whole _) bM (Memref.isWhole_whole _) cc0_scratch1
          eM (Memref.isWhole_whole _) cM (Memref.isWhole_whole _) cc0_scratch4 cc0_scratch5) Q := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, Prog.bind_assoc, wp_deviceId]
  unfold coreIn
  rw [bigSep_fin8, Ring.bigSep_fin3, Ring.bigSep_fin3, Ring.bigSep_fin3]
  iintro ⟨#HR, #HL, ⟨HO, ⟨Hq0, Hq1, Hq2, Hq3, Hq4, Hq5, Hq6, Hq7⟩, ⟨Hs0, Hs1, Hs2⟩, ⟨HatB, HcB⟩, ⟨Hr0, Hr1, Hr2⟩, ⟨Hv0, Hv1, Hv2⟩, ⟨%X, He⟩, ⟨%Y, Hout⟩⟩, Hk⟩
  -- tell the three others that they may send here
  unfold O₀ Offer
  iapply (wp_signal_ready m K c _ 2 (dev1_eq c) ((Osend c + oweB c 0) + oweB c 1)) $$ [$HR $HO $Hs2]
  iintro HO
  iapply (wp_signal_ready m K c _ 1 (dev2_eq c) (Osend c + oweB c 0)) $$ [$HR $HO $Hs1]
  iintro HO
  iapply (wp_signal_ready m K c _ 0 (dev3_eq c) (Osend c)) $$ [$HR $HO $Hs0]
  iintro HO
  -- start the eight copies
  iapply (wp_copy_tile m K c 0 rfl rfl rfl) $$ [$HR $Hq0]
  iintro Hq0
  iapply (wp_copy_tile m K c 1 rfl rfl rfl) $$ [$HR $Hq1]
  iintro Hq1
  iapply (wp_copy_tile m K c 2 rfl rfl rfl) $$ [$HR $Hq2]
  iintro Hq2
  iapply (wp_copy_tile m K c 3 rfl rfl rfl) $$ [$HR $Hq3]
  iintro Hq3
  iapply (wp_copy_tile m K c 4 rfl rfl rfl) $$ [$HR $Hq4]
  iintro Hq4
  iapply (wp_copy_tile m K c 5 rfl rfl rfl) $$ [$HR $Hq5]
  iintro Hq5
  iapply (wp_copy_tile m K c 6 rfl rfl rfl) $$ [$HR $Hq6]
  iintro Hq6
  iapply (wp_copy_tile m K c 7 rfl rfl rfl) $$ [$HR $Hq7]
  iintro Hq7
  -- take the tiles in order
  iapply (wp_wait_tile m K c 0 rfl rfl) $$ [$HR $HL $HO $Hq0]
  unfold Landed
  iintro ⟨HO, Hb0, Hq0⟩
  iapply (wp_load_held c bM (bR 0) (fun _ => rfl) fullShare (tile m c 0)) $$ Hb0
  iintro Hb0
  iapply (wp_wait_tile m K c 1 rfl rfl) $$ [$HR $HL $HO $Hq1]
  unfold Landed
  iintro ⟨HO, Hb1, Hq1⟩
  iapply (wp_load_held c bM (bR 1) (fun _ => rfl) fullShare (tile m c 1)) $$ Hb1
  iintro Hb1
  iapply (wp_wait_tile m K c 2 rfl rfl) $$ [$HR $HL $HO $Hq2]
  unfold Landed
  iintro ⟨HO, Hb2, Hq2⟩
  iapply (wp_load_held c bM (bR 2) (fun _ => rfl) fullShare (tile m c 2)) $$ Hb2
  iintro Hb2
  iapply (wp_wait_tile m K c 3 rfl rfl) $$ [$HR $HL $HO $Hq3]
  unfold Landed
  iintro ⟨HO, Hb3, Hq3⟩
  iapply (wp_load_held c bM (bR 3) (fun _ => rfl) fullShare (tile m c 3)) $$ Hb3
  iintro Hb3
  iapply (wp_wait_tile m K c 4 rfl rfl) $$ [$HR $HL $HO $Hq4]
  unfold Landed
  iintro ⟨HO, Hb4, Hq4⟩
  iapply (wp_load_held c bM (bR 4) (fun _ => rfl) fullShare (tile m c 4)) $$ Hb4
  iintro Hb4
  iapply (wp_wait_tile m K c 5 rfl rfl) $$ [$HR $HL $HO $Hq5]
  unfold Landed
  iintro ⟨HO, Hb5, Hq5⟩
  iapply (wp_load_held c bM (bR 5) (fun _ => rfl) fullShare (tile m c 5)) $$ Hb5
  iintro Hb5
  iapply (wp_wait_tile m K c 6 rfl rfl) $$ [$HR $HL $HO $Hq6]
  unfold Landed
  iintro ⟨HO, Hb6, Hq6⟩
  iapply (wp_load_held c bM (bR 6) (fun _ => rfl) fullShare (tile m c 6)) $$ Hb6
  iintro Hb6
  iapply (wp_wait_tile m K c 7 rfl rfl) $$ [$HR $HL $HO $Hq7]
  unfold Landed
  iintro ⟨HO, Hb7, Hq7⟩
  iapply (wp_load_held c bM (bR 7) (fun _ => rfl) fullShare (tile m c 7)) $$ Hb7
  iintro Hb7
  -- the own sum
  iapply (wp_load_row c eM fullShare X) $$ He
  iintro He
  iapply (wp_store_row c eM X (mySum m c)) $$ He
  iintro He
  ihave He' := (Entails.of_eq (sum_thirds c (mySum m c))) $$ He
  icases He' with ⟨He0, He1, He2⟩
  -- wait until the three others may be sent to, and send
  iapply (wp_wait_ready m K c) $$ [$HR $HL $HO $HatB $HcB]
  rw [Ring.bigSep_fin3]
  iintro ⟨HO, HzB, Hc0, Hc1, Hc2⟩
  unfold Osend
  iapply (wp_send_sum m K c _ 0 (dev4_eq c) ((0 + oweR c 2) + oweR c 1) rfl rfl rfl rfl) $$ [$HR $HO $Hr0 $He0 $Hc0]
  iintro ⟨HO, Hr0⟩
  iapply (wp_send_sum m K c _ 1 (dev5_eq c) (0 + oweR c 2) rfl rfl rfl rfl) $$ [$HR $HO $Hr1 $He1 $Hc1]
  iintro ⟨HO, Hr1⟩
  iapply (wp_send_sum m K c _ 2 (dev6_eq c) 0 rfl rfl rfl rfl) $$ [$HR $HO $Hr2 $He2 $Hc2]
  iintro ⟨HO, Hr2⟩
  -- wait for each send and for each arrival
  iapply (wp_wait_send m K c 0 rfl rfl) $$ [$HR $HL $HO $Hr0]
  iintro ⟨HO, Hr0, He0⟩
  iapply (wp_wait_recv m K c 0 rfl rfl) $$ [$HR $HL $HO $Hv0]
  iintro ⟨HO, Hv0, Hc0⟩
  iapply (wp_wait_send m K c 1 rfl rfl) $$ [$HR $HL $HO $Hr1]
  iintro ⟨HO, Hr1, He1⟩
  iapply (wp_wait_recv m K c 1 rfl rfl) $$ [$HR $HL $HO $Hv1]
  iintro ⟨HO, Hv1, Hc1⟩
  iapply (wp_wait_send m K c 2 rfl rfl) $$ [$HR $HL $HO $Hr2]
  iintro ⟨HO, Hr2, He2⟩
  iapply (wp_wait_recv m K c 2 rfl rfl) $$ [$HR $HL $HO $Hv2]
  iintro ⟨HO, Hv2, Hc2⟩
  ihave He := (Entails.of_eq (sum_thirds c (mySum m c)).symm) $$ [He0 He1 He2]
  · isplitl [He0]; · iexact He0
    isplitl [He1] <;> iassumption
  -- the result
  iapply (wp_load_row c eM fullShare (mySum m c)) $$ He
  iintro He
  iapply (wp_load_held c cM (cR 0) (fun _ => rfl) fullShare (slotOf (mySum m (src 0 c)))) $$ Hc0
  iintro Hc0
  iapply (wp_load_held c cM (cR 1) (fun _ => rfl) fullShare (slotOf (mySum m (src 1 c)))) $$ Hc1
  iintro Hc1
  iapply (wp_load_held c cM (cR 2) (fun _ => rfl) fullShare (slotOf (mySum m (src 2 c)))) $$ Hc2
  iintro Hc2
  iapply (wp_load_row c oM fullShare Y) $$ Hout
  iintro Hout
  iapply (wp_store_row c oM Y (outAt m c)) $$ Hout
  iintro Hout
  unfold wpc
  rw [wp_ret]; imodintro
  iapply Hk
  unfold coreOut Landed Back Arrived
  rw [bigSep_fin8, Ring.bigSep_fin3, Ring.bigSep_fin3]
  isplitl [HO]; · iexact HO
  isplitl [Hb0 Hq0 Hb1 Hq1 Hb2 Hq2 Hb3 Hq3 Hb4 Hq4 Hb5 Hq5 Hb6 Hq6 Hb7 Hq7]
  · isplitl [Hb0 Hq0]; · isplitl [Hb0] <;> iassumption
    isplitl [Hb1 Hq1]; · isplitl [Hb1] <;> iassumption
    isplitl [Hb2 Hq2]; · isplitl [Hb2] <;> iassumption
    isplitl [Hb3 Hq3]; · isplitl [Hb3] <;> iassumption
    isplitl [Hb4 Hq4]; · isplitl [Hb4] <;> iassumption
    isplitl [Hb5 Hq5]; · isplitl [Hb5] <;> iassumption
    isplitl [Hb6 Hq6]; · isplitl [Hb6] <;> iassumption
    isplitl [Hb7] <;> iassumption
  isplitl [HzB]; · iexact HzB
  isplitl [Hr0 Hr1 Hr2]
  · isplitl [Hr0]; · iexact Hr0
    isplitl [Hr1] <;> iassumption
  isplitl [Hv0 Hc0 Hv1 Hc1 Hv2 Hc2]
  · isplitl [Hv0 Hc0]; · isplitl [Hv0] <;> iassumption
    isplitl [Hv1 Hc1]; · isplitl [Hv1] <;> iassumption
    isplitl [Hv2] <;> iassumption
  isplitl [He] <;> iassumption

end Cert.KernelIdealRun

end
-- ==== Proof.KernelIdealGather.lean ====
module

public import proofs.«01_k».proof.Proof.KernelIdealBody

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What holds a given contents holds some contents. -/
theorem some_intro {A : Type} (Φ : A → sProp 𝕄) (a : A) : Φ a ⊢ iprop(∃ x, Φ x) := by
  iintro H; iexists a; iexact H

/-- Something for every role, sorted by the kind of role. -/
theorem by_role (Φ : Role → sProp 𝕄) : bigSep Finset.univ Φ
    = iprop(Φ rBar ∗ (bigSep Finset.univ fun t : Fin 8 => Φ (rTile t)) ∗ (bigSep Finset.univ fun s : Fin 3 => Φ (rSend s))
        ∗ bigSep Finset.univ fun s : Fin 3 => Φ (rRecv s)) := by
  rw [bigSep_univ_sum, bigSep_univ_of_subsingleton (), bigSep_univ_sum, bigSep_univ_sum]; rfl

/-! ## A buffer and its pieces -/

section Pieces
variable (c : Dev nD) {sp : Space} {sh : Shape} {e : EltTy} (M : Memref sig .tc sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- Memory held whole is held in pieces. -/
theorem held_split : iprop(∃ X, held c M fullShare X) ⊢ (bigSep Finset.univ fun t => iprop(∃ X, held c (M.slice (r t) (hr t)) fullShare X) : sProp 𝕄) := by
  iintro ⟨%X, H⟩
  iapply ((owns_rects (c : Thread nD τ) M fullShare r hr hd hcov X).trans
    (bigSep_mono fun t _ => some_intro (fun Y => held c (M.slice (r t) (hr t)) fullShare Y) (fun j => X ((r t).emb j))))
  iexact H

omit hcov in
/-- Contents given piece by piece are the contents of the whole, if the pieces lie apart. -/
theorem contents_of_pieces [Nonempty (Elt F e)] (Xs : (t : T) → (r t).shape.Idx → Elt F e) :
    ∃ X : sh.Idx → Elt F e, ∀ t j, X ((r t).emb j) = Xs t j := by
  have key : ∀ i, ∃ v, ∀ t j, (r t).emb j = i → Xs t j = v := fun i => by
    by_cases h : ∃ t j, (r t).emb j = i
    · obtain ⟨t, j, rfl⟩ := h
      refine ⟨Xs t j, fun t' j' h' => ?_⟩
      have mem : ∀ (t : T) (j : (r t).shape.Idx), (r t).emb j ∈ (r t).set := fun t j => by
        rw [← Rect.map_emb_univ]; exact Finset.mem_map_of_mem _ (Finset.mem_univ j)
      have ht : t' = t := by
        by_contra hn
        exact Finset.disjoint_left.mp (hd t' t hn) (mem t' j') (h' ▸ mem t j)
      subst ht
      rw [(r t').emb.injective h']
    · exact ⟨Classical.arbitrary _, fun t j h' => absurd ⟨t, j, h'⟩ h⟩
  choose X hX using key
  exact ⟨X, fun t j => (hX _ t j rfl).symm⟩

/-- Memory held in pieces is held whole. -/
theorem held_join : (bigSep Finset.univ fun t => iprop(∃ X, held c (M.slice (r t) (hr t)) fullShare X) : sProp 𝕄) ⊢ iprop(∃ X, held c M fullShare X) := by
  iintro H
  ihave H' := (BI.bigSep_exists_pi Finset.univ fun t X => (held c (M.slice (r t) (hr t)) fullShare X : sProp 𝕄)) $$ H
  icases H' with ⟨%Xs, H'⟩
  obtain ⟨X, hX⟩ := contents_of_pieces r hd Xs
  iexists X
  iapply (owns_of_rects (c : Thread nD τ) M fullShare r hr hd hcov X)
  iapply (Entails.of_eq (bigSep_congr fun t _ => show held c (M.slice (r t) (hr t)) fullShare (Xs t) = _ from
    congrArg (fun Y => (held c (M.slice (r t) (hr t)) fullShare Y : sProp 𝕄)) (funext fun j => (hX t j).symm)))
  iexact H'

end Pieces

/-- The scratch that the tiles are copied to, whole and in tiles; -/
theorem tiles_split (c : Dev nD) : iprop(∃ X, held c bM fullShare X) ⊢ (bigSep Finset.univ fun t => iprop(∃ X, held c (bT t) fullShare X) : sProp 𝕄) :=
  held_split c bM bR (fun _ _ => rfl) b_apart b_all
theorem tiles_join (c : Dev nD) (Xs : Fin 8 → S1x256x1024.Idx → Elt F .bf16) :
    (bigSep Finset.univ fun t => held c (bT t) fullShare (Xs t) : sProp 𝕄) ⊢ iprop(∃ X, held c bM fullShare X) :=
  (bigSep_mono fun t _ => some_intro (fun X => held c (bT t) fullShare X) (Xs t)).trans (held_join c bM bR (fun _ _ => rfl) b_apart b_all)
/-- and the landing buffer, whole and in slots. -/
theorem slots_split (c : Dev nD) : iprop(∃ X, held c cM fullShare X) ⊢ (bigSep Finset.univ fun s => iprop(∃ X, held c (cT s) fullShare X) : sProp 𝕄) :=
  held_split c cM cR (fun _ _ => rfl) c_apart c_all
theorem slots_join (c : Dev nD) (Xs : Fin 3 → S1x1x1024.Idx → Elt F .bf16) :
    (bigSep Finset.univ fun s => held c (cT s) fullShare (Xs s) : sProp 𝕄) ⊢ iprop(∃ X, held c cM fullShare X) :=
  (bigSep_mono fun s _ => some_intro (fun X => held c (cT s) fullShare X) (Xs s)).trans (held_join c cM cR (fun _ _ => rfl) c_apart c_all)

/-- A buffer held at some contents, said in the two ways. -/
theorem some_whole (c : Dev nD) (b : Ref sig .tc) :
    (iprop(∃ f : Buf (Elt F) ((c : Thread nD τ).loc b), ((c : Thread nD τ).loc b) ↦{fullShare} f) : sProp 𝕄)
      = iprop(∃ X, held c (Memref.whole b) fullShare X) := by
  simp only [held, owns_whole]

/-- The device's rows as it was launched with them, whole and in tiles. -/
theorem rows_tiles (c : Dev nD) :
    (((c : Thread nD τ).loc main_arg0) ↦{fullShare} m ((c : Thread nD τ).loc main_arg0) : sProp 𝕄)
      = bigSep Finset.univ fun t => held c (xT t) fullShare (rows m c t) := by
  have h : (((xM).view.loc (c : Thread nD τ)) ↦[xM.view.set]{fullShare} m ((c : Thread nD τ).loc main_arg0) : sProp 𝕄)
      = bigSep Finset.univ fun t => held c (xT t) fullShare (rows m c t) :=
    pointsTo_rects (c : Thread nD τ) xM fullShare xR (fun _ _ => rfl) x_apart x_all (m ((c : Thread nD τ).loc main_arg0))
  rw [View.set_whole] at h
  exact h

/-! ## What is minted at launch -/

/-- A device's contributions as they are minted: three to its barrier, one to each other cell. -/
abbrev Due : Type := Fin 3 ⊕ (Fin 8 ⊕ Fin 3 ⊕ Fin 3)

def dueOf : Due → Role × Fin 3
  | .inl e => (rBar, e)
  | .inr k => (.inr k, 0)

theorem dueOf_inj : Function.Injective dueOf := by decide

/-- The token of a contribution to a cell of device `c`. -/
def tokOf (cd : Dev nD × Due) : GSem nD τ sig × ℕ × Fin 3 := (kcell (cd.1, (dueOf cd.2).1), 0, (dueOf cd.2).2)

theorem tokOf_inj : Function.Injective tokOf := by
  rintro ⟨c, d⟩ ⟨c', d'⟩ h
  have h1 := kcell_inj (congrArg Prod.fst h)
  have h2 : (dueOf d).2 = (dueOf d').2 := congrArg (fun x : GSem nD τ sig × ℕ × Fin 3 => x.2.2) h
  have h3 : d = d' := dueOf_inj (Prod.ext (congrArg Prod.snd h1) h2)
  rw [show c = c' from congrArg Prod.fst h1, h3]

def mintCells : Finset (GSem nD τ sig) := Finset.univ.map ⟨kcell, kcell_inj⟩
def mintToks : Finset (GSem nD τ sig × ℕ × Fin 3) := Finset.univ.map ⟨tokOf, tokOf_inj⟩

def u₀ : UU := (initOf (Pipeline.cells cfgs cellOf_inj) (Pipeline.launchToks cfgs cellOf_inj), initOf mintCells mintToks)

/-- The tokens of the contributions to device `c`'s own cells. -/
def toks (c : Dev nD) : sProp 𝕄 :=
  bigSep Finset.univ fun d : Due => dutyTok ER (kcell (c, (dueOf d).1)) 0 (dueOf d).2

/-- What the launch deals device `c`. -/
def G (c : Dev nD) : sProp 𝕄 :=
  iprop((bigSep Finset.univ fun k : Role => roundState ER (sched m) (kcell (c, k)) 0)
    ∗ (bigSep Finset.univ fun k : Role => atPos ER (kcell (c, k)) 0 ∅ 0)
    ∗ (bigSep Finset.univ fun k : Role => reached ER (kcell (c, k)) 0) ∗ toks c)

theorem fund_all : BI.own (ER (initOf mintCells mintToks)) ⊢ (|==> bigSep Finset.univ (G m) : sProp 𝕄) := by
  have hX (Φ : GSem nD τ sig → sProp 𝕄) : bigSep mintCells Φ = bigSep Finset.univ fun c : Dev nD => bigSep Finset.univ fun k : Role => Φ (kcell (c, k)) := by
    unfold mintCells; rw [bigSep_map, bigSep_univ_prod]; rfl
  have hT : bigSep mintToks (fun x => (dutyTok ER x.1 x.2.1 x.2.2 : sProp 𝕄)) = bigSep Finset.univ fun c : Dev nD => toks c := by
    unfold mintToks; rw [bigSep_map, bigSep_univ_prod]; rfl
  iintro HX
  imod (Rounds.fund ER (sched m) mintCells mintToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

/-! ## Dealing the tokens to the devices that contribute -/

/-- The tokens of the contributions that device `c` makes. -/
def payToks (c : Dev nD) : sProp 𝕄 :=
  iprop((bigSep Finset.univ fun e : Fin 3 => dutyTok ER (kcell (src e c, rBar)) 0 e)
    ∗ (bigSep Finset.univ fun t : Fin 8 => dutyTok ER (kcell (c, rTile t)) 0 0)
    ∗ (bigSep Finset.univ fun s : Fin 3 => dutyTok ER (kcell (c, rSend s)) 0 0)
    ∗ bigSep Finset.univ fun s : Fin 3 => dutyTok ER (kcell (tgt s c, rRecv s)) 0 0)

/-- What every device has three of may be dealt anew, the three each around the devices in their own way. -/
theorem deal (f : Fin 3 → Dev nD ≃ Dev nD) (Φ : Dev nD → Fin 3 → sProp 𝕄) :
    (bigSep Finset.univ fun c => bigSep Finset.univ fun e => Φ c e)
      = bigSep Finset.univ fun c => bigSep Finset.univ fun e => Φ (f e c) e := by
  rw [bigSep_univ_comm (fun c e => Φ c e), bigSep_univ_comm (fun c e => Φ (f e c) e)]
  exact bigSep_congr fun e _ => bigSep_univ_equiv (f e) fun c => Φ c e

theorem toks_dealt : (bigSep Finset.univ fun c : Dev nD => (toks c : sProp 𝕄)) = bigSep Finset.univ fun c : Dev nD => payToks c := by
  have h (c : Dev nD) : (toks c : sProp 𝕄) = iprop((bigSep Finset.univ fun e : Fin 3 => dutyTok ER (kcell (c, rBar)) 0 e)
      ∗ (bigSep Finset.univ fun t : Fin 8 => dutyTok ER (kcell (c, rTile t)) 0 0)
      ∗ (bigSep Finset.univ fun s : Fin 3 => dutyTok ER (kcell (c, rSend s)) 0 0)
      ∗ bigSep Finset.univ fun s : Fin 3 => dutyTok ER (kcell (c, rRecv s)) 0 0) := by
    unfold toks; rw [bigSep_univ_sum, bigSep_univ_sum, bigSep_univ_sum]; rfl
  rw [bigSep_congr fun c _ => h c]
  unfold payToks
  rw [bigSep_sep', bigSep_sep', bigSep_sep', bigSep_sep', bigSep_sep', bigSep_sep',
    deal (fun e => (turn e).symm) fun c e => dutyTok ER (kcell (c, rBar)) 0 e, deal turn fun c s => dutyTok ER (kcell (c, rRecv s)) 0 0]
  rfl

/-! ## The records, known to every device -/

/-- What is device `c`'s own at the start of its body: its positions and its tokens. -/
def linear (c : Dev nD) : sProp 𝕄 := iprop((bigSep Finset.univ fun k : Role => atPos ER (kcell (c, k)) 0 ∅ 0) ∗ payToks c)

/-- That, and the records. -/
def G' (c : Dev nD) : sProp 𝕄 := iprop(∃ K, records m K ∗ linear c)

/-- The kernel's own semaphores: all but the barrier. -/
def osem (k : Fin 8 ⊕ Fin 3 ⊕ Fin 3) : SemLoc sig := csem (.inr k)

theorem ownSemFacts : Pipeline.OwnSemFacts cfg0.spec osem := by decide

/-- The barrier semaphore is the one that outlives the kernel. -/
theorem unscoped_eq (c : Dev nD) : (unscopedSems0 c : sProp 𝕄) = semVal (kcell (c, rBar)) 0 := by
  unfold unscopedSems0; rw [bigSep_eq_bigSepL_of_eq [SemLoc.reg barS] (by decide) (by decide)]; rfl

/-- A device's counters, the kernel's own and the barrier's, role by role. -/
theorem counters_eq (c : Dev nD) :
    (bigSep Finset.univ fun k : Role => semVal (kcell (c, k)) 0 : sProp 𝕄)
      = iprop(unscopedSems0 c ∗ Pipeline.ownSems0 (Ix := Unit) (Name := ℕ) (U := UU) (Lvl := ℕ) (Val := Elt F) (τ := τ) osem c) := by
  rw [unscoped_eq, bigSep_univ_sum, bigSep_univ_of_subsingleton ()]; rfl

/-- Something that may be used again and again serves every member of a family. -/
theorem serve {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  iintro ⟨#HR, H⟩
  iapply ((Entails.of_eq (bigSep_sep' S (fun _ => R) Φ).symm).trans (bigSep_mono fun i _ => h i))
  isplitr
  · iapply (BI.bigSep_of_persistent S R); iexact HR
  · iexact H

/-- One device's counters and round states become its cells' invariants. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Role => iprop(∃ κ : ℕ, cellInv ER (sched m) κ (kcell (c, k))))
          ∗ (bigSep Finset.univ fun k : Role => atPos ER (kcell (c, k)) 0 ∅ 0)
          ∗ (bigSep Finset.univ fun k : Role => reached ER (kcell (c, k)) 0) ∗ toks c) := by
  have alloc : iprop((bigSep Finset.univ fun k : Role => semVal (kcell (c, k)) 0) ∗ bigSep Finset.univ fun k : Role => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  rw [counters_eq] at alloc
  unfold G
  iintro ⟨Ho, Hu, Hst, Hrest⟩
  imod alloc $$ [Ho Hu Hst] with Hinv
  · iframe
  imodintro
  iframe

/-- The invariants of all devices' cells are recorded for everyone, and the tokens dealt. -/
theorem regroup :
    (bigSep Finset.univ fun c : Dev nD => iprop((bigSep Finset.univ fun k : Role => iprop(∃ κ : ℕ, cellInv ER (sched m) κ (kcell (c, k))))
          ∗ (bigSep Finset.univ fun k : Role => atPos ER (kcell (c, k)) 0 ∅ 0)
          ∗ (bigSep Finset.univ fun k : Role => reached ER (kcell (c, k)) 0) ∗ toks c) : sProp 𝕄)
      ⊢ bigSep Finset.univ (G' m) := by
  rw [bigSep_sep', bigSep_sep', bigSep_sep', toks_dealt,
    ← bigSep_univ_prod (fun ck : Dev nD × Role => iprop(∃ κ : ℕ, cellInv ER (sched m) κ (kcell ck))),
    ← bigSep_univ_prod (fun ck : Dev nD × Role => (reached ER (kcell ck) 0 : sProp 𝕄))]
  iintro ⟨HI, Hat, #HR, Htok⟩
  ihave HK := (BI.bigSep_exists_pi Finset.univ (fun (ck : Dev nD × Role) (κ : ℕ) => (cellInv ER (sched m) κ (kcell ck) : sProp 𝕄))) $$ HI
  icases HK with ⟨%K, #HI⟩
  iapply (serve (R := records m K) (Φ := linear) fun c => some_intro (fun K => iprop(records m K ∗ linear c)) K)
  isplitr
  · unfold records; isplitl <;> iassumption
  · unfold linear; rw [bigSep_sep']; iframe

/-- So all devices' counters at once become the records and each device's own part. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  exact ((bigSep_mono fun c _ => cells_alloc m c).trans (bigSep_fupd _ _)).trans (BI.fupd_mono (regroup m))

/-! ## The credit that the debts found -/

/-- If every device owes `n` to a cell of one role, each at another device, each device is owed `n` at that role and nothing at others. -/
theorem sum_owed (f : Dev nD ≃ Dev nD) (k k' : Role) (n : ℕ) (c : Dev nD) :
    (∑ d : Dev nD, (tallyAt (kcell (f d, k)) () n : CellTallies nD τ sig Unit) (kcell (c, k')) ()) = if k' = k then n else 0 := by
  have h (d : Dev nD) : (tallyAt (kcell (f d, k)) () n : CellTallies nD τ sig Unit) (kcell (c, k')) () = if d = f.symm c then (if k' = k then n else 0) else 0 := by
    rw [tallyAt_apply]
    by_cases hd : d = f.symm c
    · subst hd
      rw [if_pos rfl, Equiv.apply_symm_apply]
      refine if_congr ⟨fun hh => congrArg Prod.snd (kcell_inj hh.1), fun hh => ⟨by rw [hh], rfl⟩⟩ rfl rfl
    · rw [if_neg hd, if_neg fun hh => hd ?_]
      have := congrArg Prod.fst (kcell_inj hh.1)
      exact (f.symm_apply_eq.mpr this).symm
  rw [Finset.sum_congr rfl fun d _ => h d, Finset.sum_ite_eq' Finset.univ, if_pos (Finset.mem_univ _)]

/-- What the devices together owe a cell of device `c`. -/
theorem owed_all (c : Dev nD) (k : Role) : (∑ d : Dev nD, O₀ d (kcell (c, k)) ())
    = ((((((if k = rRecv 2 then NS else 0) + if k = rRecv 1 then NS else 0) + if k = rRecv 0 then NS else 0)
        + if k = rBar then 1 else 0) + if k = rBar then 1 else 0) + if k = rBar then 1 else 0) := by
  have h (d : Dev nD) : O₀ d (kcell (c, k)) ()
      = ((((oweR d 2 (kcell (c, k)) () + oweR d 1 (kcell (c, k)) ()) + oweR d 0 (kcell (c, k)) ())
        + oweB d 0 (kcell (c, k)) ()) + oweB d 1 (kcell (c, k)) ()) + oweB d 2 (kcell (c, k)) () := by
    unfold O₀ Osend
    simp only [Pi.add_apply, Finsupp.add_apply, zero_add]
  rw [Finset.sum_congr rfl fun d _ => h d]
  simp only [Finset.sum_add_distrib]
  rw [← sum_owed (turn 2) (rRecv 2) k NS c, ← sum_owed (turn 1) (rRecv 1) k NS c, ← sum_owed (turn 0) (rRecv 0) k NS c]
  congr 1
  · congr 1
    · congr 1
      exact sum_owed (turn 0).symm rBar k 1 c
    · exact sum_owed (turn 1).symm rBar k 1 c
  · exact sum_owed (turn 2).symm rBar k 1 c

theorem owed_bar (c : Dev nD) : (∑ d : Dev nD, O₀ d (kcell (c, rBar)) ()) = 3 := by
  rw [owed_all]
  rfl
theorem owed_recv (c : Dev nD) (s : Fin 3) : (∑ d : Dev nD, O₀ d (kcell (c, rRecv s)) ()) = NS := by
  rw [owed_all]
  fin_cases s <;> simp

theorem credit_eq (c : Dev nD) (k : Role) (n : ℕ) (h : (∑ d : Dev nD, O₀ d (kcell (c, k)) ()) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_)
  cases u
  rw [Pipeline.launchCredit_owing, Finsupp.single_eq_same, h]

/-- Device `c` starts with the credit of its barrier's three signals and of its three arrivals. -/
theorem creds (c : Dev nD) : (Pipeline.launchCred O₀ c : sProp 𝕄)
    ⊢ iprop(cred (tallyAt (kcell (c, rBar)) () 3) ∗ bigSep Finset.univ fun s : Fin 3 => cred (tallyAt (kcell (c, rRecv s)) () NS)) := by
  let Φ : SemLoc sig → sProp 𝕄 := fun sm => cred (tallyOn ((c : Thread nD τ), sm) (launchCredit (Pipeline.owing O₀) 0 ((c : Thread nD τ), sm)))
  have h : (Pipeline.launchCred O₀ c : sProp 𝕄) ⊢ bigSep Finset.univ fun k => Φ (csem k) :=
    (bigSep_subset (Finset.subset_univ (Finset.univ.map ⟨csem, csem_inj⟩))).trans (Entails.of_eq (bigSep_map ⟨csem, csem_inj⟩))
  rw [by_role] at h
  iintro H
  ihave H' := h $$ H
  icases H' with ⟨HB, -, -, HR⟩
  isplitl [HB]
  · iapply (Entails.of_eq (congrArg cred (credit_eq c rBar 3 (owed_bar c)))); iexact HB
  · iapply (Entails.of_eq (bigSep_congr fun s _ => congrArg cred (credit_eq c (rRecv s) NS (owed_recv c s)))); iexact HR

/-! ## Between the launch and the body -/

/-- What device `c` has before its one grid point, beside its scratch. -/
def start (c : Dev nD) : sProp 𝕄 :=
  iprop(G' m c ∗ (cred (tallyAt (kcell (c, rBar)) () 3) ∗ bigSep Finset.univ fun s : Fin 3 => cred (tallyAt (kcell (c, rRecv s)) () NS))
    ∗ levAts L lv ∗ ((c : Thread nD τ).loc main_arg0) ↦{fullShare} m ((c : Thread nD τ).loc main_arg0))

/-- The three scratch buffers, at whatever contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch2), ((c : Thread nD τ).loc cc0_scratch2) ↦{fullShare} f)
    ∗ ∃ f : Buf (Elt F) ((c : Thread nD τ).loc cc0_scratch3), ((c : Thread nD τ).loc cc0_scratch3) ↦{fullShare} f)

/-- What device `c` has before the grid point, -/
def Φ₀ (c : Dev nD) : sProp 𝕄 := iprop(start m c ∗ scratch c)
/-- and after it: every counter at zero, its rows as they were. -/
def Φ₁ (c : Dev nD) : sProp 𝕄 :=
  iprop((bigSep Finset.univ fun k : Role => semVal (kcell (c, k)) 0)
    ∗ (((c : Thread nD τ).loc main_arg0) ↦{fullShare} m ((c : Thread nD τ).loc main_arg0)) ∗ scratch c)

/-- What the body needs is at hand before the grid point. -/
theorem core_intro (c : Dev nD) : iprop(Φ₀ m c ∗ Owes c (O₀ c) ∗ ∃ Y, held c oM fullShare Y)
    ⊢ (∃ K, records m K ∗ levAts L lv ∗ coreIn m c : sProp 𝕄) := by
  unfold Φ₀ start G' scratch linear payToks
  rw [some_whole, some_whole, some_whole, rows_tiles]
  iintro ⟨⟨⟨⟨%K, HK, Hat, HtB, HtT, HtS, HtR⟩, ⟨HcB, HcR⟩, Hlev, Hx⟩, Hb, He, Hc⟩, HO, Ho⟩
  ihave Hb' := (tiles_split c) $$ Hb
  ihave Hc' := (slots_split c) $$ Hc
  ihave Hat' := (Entails.of_eq (by_role (fun k : Role => (atPos ER (kcell (c, k)) 0 ∅ 0 : sProp 𝕄)))) $$ Hat
  icases Hat' with ⟨HaB, HaT, HaS, HaR⟩
  iexists K
  unfold coreIn Queued Offer Ready Awaited
  simp only [bigSep_sep']
  iframe

/-- What the body leaves is what is due after the grid point. -/
theorem core_exit (c : Dev nD) : coreOut m c ⊢ (iprop(Φ₁ m c ∗ Owes c 0 ∗ held c oM fullShare (outAt m c)) : sProp 𝕄) := by
  unfold coreOut Landed Back Arrived Φ₁ scratch
  rw [some_whole, some_whole, some_whole, rows_tiles, by_role (fun k : Role => (semVal (kcell (c, k)) 0 : sProp 𝕄))]
  simp only [bigSep_sep']
  iintro ⟨HO, ⟨Hb, Hx, HsT⟩, HsB, HsS, ⟨HsR, Hc⟩, He, Ho⟩
  ihave Hb' := (tiles_join c (tile m c)) $$ Hb
  ihave Hc' := (slots_join c fun s => slotOf (mySum m (src s c))) $$ Hc
  iframe
  iexists _; iexact He

end Cert.KernelIdealRun

end
-- ==== Proof.KernelIdealRun.lean ====
module

public import proofs.«01_k».proof.Proof.KernelIdealGather
public import Idealize.ShloMosaic.Lib.Pipeline.CollectiveSegs
public import Idealize.ShloMosaic.Lib.Pipeline.Value

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body at the grid point -/

/-- The one pipelined region, on device `c`: what its output block holds after the point, and what is held before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- What the region hands the body, -/
def bodyPre (c : Dev nD) : sProp 𝕄 :=
  iprop(Φ₀ m c ∗ (dats m ρ 0 c).owesAt () t0_0.castSucc ∗ ∃ d, held c oM fullShare ((dats m ρ 0 c).before (0 : Fin 1) t0_0 d))
/-- and what it wants back. -/
def bodyPost (c : Dev nD) : sProp 𝕄 :=
  iprop(Φ₁ m c ∗ (dats m ρ 0 c).owesAt () t0_0.succ ∗ held c oM fullShare (outAt m c))

/-- The body does at the grid point what the region asks of it. -/
theorem sound_body (c : Dev nD) : bodyPre m ρ c
    ⊢ wpc c (cc0_body xM (Memref.isWhole_whole _) oM (Memref.isWhole_whole _) bM (Memref.isWhole_whole _) cc0_scratch1
          eM (Memref.isWhole_whole _) cM (Memref.isWhole_whole _) cc0_scratch4 cc0_scratch5) fun _ => bodyPost m ρ c := by
  unfold bodyPre
  iintro ⟨HΦ, Ho, ⟨%d, Hout⟩⟩
  unfold Dat.owesAt Pipeline.owesWithin
  icases Ho with ⟨%W, %hW, HO⟩
  ihave H := (core_intro m c) $$ [HΦ HO Hout]
  · isplitl [HΦ]; · iexact HΦ
    isplitl [HO]
    · unfold Owes; iexists W; iexact HO
    · iexists _; iexact Hout
  icases H with ⟨%K, HR, HL, Hin⟩
  iapply (sound_core m K c fun _ => bodyPost m ρ c)
  isplitl [HR]; · iexact HR
  isplitl [HL]; · iexact HL
  isplitl [Hin]; · iexact Hin
  iintro H
  ihave H' := (core_exit m c) $$ H
  icases H' with ⟨HΦ, HO, Hout⟩
  unfold bodyPost
  isplitl [HΦ]; · iexact HΦ
  isplitl [HO]
  · unfold Owes Dat.owesAt Pipeline.owesWithin
    icases HO with ⟨%W', HO⟩
    iexists W'
    isplitr
    · ipureintro; exact fun _ _ => Or.inl trivial
    · iexact HO
  · iexact Hout

theorem body_obligation (c : Dev nD) : BodyObligation (dats (F := F) m ρ 0 c) (defs₀ (F := F)) 𝒱₀ () Set.univ := fun t => by
  rw [fin_N0 t, bigSep_W0, bigSep_W0]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start
  isplitl
  · iframe
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  iframe

/-- What is still held when the region is over: the barrier's counter, and the device's rows. -/
def ending (c : Dev nD) : sProp 𝕄 :=
  iprop(unscopedSems0 c ∗ ((c : Thread nD τ).loc main_arg0) ↦{fullShare} m ((c : Thread nD τ).loc main_arg0))

theorem leave (c : Dev nD) :
    (dats m ρ 0 c).Φ (Fin.last cfg0.N) ⊢ iprop(ending m c ∗ Pipeline.ownSems0 osem c ∗ Pipeline.scopedRest cfg0.spec c) := by
  rw [show (dats m ρ 0 c).Φ (Fin.last cfg0.N) = Φ₁ m c from rfl, scopedRest0_eq]
  unfold Φ₁ ending scratch
  rw [counters_eq]
  iintro ⟨⟨Hu, Ho⟩, Hx, Hr⟩
  iframe

/-- The staging's own semaphore lies at the bottom of the order of waits. -/
theorem lv_stage (c : Dev nD) (w : Fin cfg0.W) (s : Fin (cfg0.win w).nbuf) : lv ((c : Thread nD τ), .dma ((cfg0.win w).sem s)) () = 0 := by
  have h : (Finset.univ.filter fun k : Role => csem k = .dma ((cfg0.win w).sem s)) = ∅ := by
    revert w s; decide
  unfold lv roleOf
  rw [show (((c : Thread nD τ), SemLoc.dma ((cfg0.win w).sem s)) : GSem nD τ sig).2 = .dma ((cfg0.win w).sem s) from rfl, h, Finset.toList_empty]
  rfl

theorem owed_cases (c : Dev nD) (t : Fin (cfg0.N + 1)) : (dats m ρ 0 c).owed t = O₀ c ∨ (dats m ρ 0 c).owed t = 0 := by
  rcases t with ⟨_ | _, ht⟩
  · exact Or.inl rfl
  · exact Or.inr rfl

theorem waits (c : Dev nD) : (levAts L lv : sProp 𝕄) ⊢ Pipeline.cellsWaits cfgs (dats m ρ) () 0 c :=
  Pipeline.cellsWaits_intro cfgs (dats m ρ) () 0 c fun w s t => mayWait_stage c _ (lv_stage c w s) _ (owed_cases m ρ c t)

/-! ## The run -/

/-- What a final state is known to be: every device's result array is what the region wrote, its rows are what they were. -/
def Final : PUnit × MemSt nD τ sig (Elt F) → Prop := fun r =>
  ∀ c : Dev nD, r.2.mem ((cfg0.win (0 : Fin 1)).arr.view.loc (c : Thread nD τ)) = (dats m ρ 0 c).arrAt (0 : Fin 1) cfg0.N
    ∧ r.2.mem ((c : Thread nD τ).loc main_arg0) = m ((c : Thread nD τ).loc main_arg0)

/-- What the rows are known to hold at the end is what the memory holds. -/
theorem read_ending (c : Dev nD) (s' : Phys nD τ sig (Elt F)) : iprop(ending m c ∗ SI s')
    ⊢ (|={Set.univ}=> iprop(⌜(∀ sm : SemLoc sig, sm.isScoped .tc = false → s'.mem.sem ((c.tc : Thread nD τ), sm) = 0)
        ∧ s'.mem.mem ((c : Thread nD τ).loc main_arg0) = m ((c : Thread nD τ).loc main_arg0)⌝ ∗ SI s') : sProp 𝕄) := by
  have hread : iprop((((c : Thread nD τ).loc main_arg0) ↦{fullShare} m ((c : Thread nD τ).loc main_arg0)) ∗ SI s')
      ⊢ (iprop(⌜s'.mem.mem ((c : Thread nD τ).loc main_arg0) = m ((c : Thread nD τ).loc main_arg0)⌝ ∗ SI s') : sProp 𝕄) := by
    have h := pointsTo_read_all (Ix := Unit) (Name := ℕ) (U := UU) (Lvl := ℕ) {()} (fun _ : Unit => (c : Thread nD τ).loc main_arg0) (fun _ => m ((c : Thread nD τ).loc main_arg0)) s'
    rw [bigSep_singleton] at h
    iintro H
    ihave H' := h $$ H
    icases H' with ⟨%hm, HS⟩
    isplitr
    · ipureintro; exact hm () (Finset.mem_singleton_self _)
    · iexact HS
  unfold ending
  iintro ⟨⟨Hu, Hx⟩, HSI⟩
  ihave H := hread $$ [Hx HSI]
  · iframe
  icases H with ⟨%hm, HSI⟩
  imod (Pipeline.unscopedSems0_read (X := unscopedSems0 c) (c := c) fupd_intro s') $$ [Hu HSI] with ⟨%hs, HSI⟩
  · iframe
  imodintro
  isplitr
  · ipureintro; exact ⟨hs, hm⟩
  · iexact HSI

set_option maxRecDepth 8000 in
/-- From any memory and with all counters at zero, on four devices, every fair execution ends; then every device's result is
    what the region wrote, its rows are what they were, and every counter is at zero again. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := ending m) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨Hu, -, HSI⟩
      iapply (read_ending m c s')
      isplitl [Hu] <;> iassumption)
    (hQ := fun _ h hs => ⟨fun c => ⟨(h c).1 0, (h c).2.2.2⟩, sem_eq_zero hs fun c => (h c).2.2.1⟩)

/-! ## The result array -/

/-- The one block written out is the whole result array. -/
theorem written (c : Dev nD) : (dats m ρ 0 c).arrAt (0 : Fin 1) cfg0.N = outAt m c := by
  refine (dats m ρ 0 c).arrAt_eq_of_cover (0 : Fin 1) (outAt m c) (fun t _ => ?_) fun i => ⟨t0_0, flush0_0 _, ?_⟩
  · obtain rfl := fin_N0 t
    have ha : (dats m ρ 0 c).after (0 : Fin 1) t0_0 = outAt m c := by dsimp only [dats]
    unfold Dat.flushed
    rw [ha]
    funext j
    show outAt m c _ = outAt m c _
    congr 1
    refine funext fun a => Fin.ext ?_
    show (j a).val = 0 * _ + 1 * (j a).val
    omega
  · show i ∈ ((View.whole main_v1).slice (win0_0.rect t0_0)).set
    rw [View.set_slice_whole, Rect.mem_set_unit]
    intro a
    have h : (i a).val < S1x1024.size a := (i a).isLt
    show 0 * _ ≤ (i a).val ∧ (i a).val < 0 * _ + S1x1024.size a
    omega

/-- Every fair execution ends with `outAt` on every device, the rows unchanged, the counters at zero. -/
theorem run_value : θ_run defs (onTc (τ := τ) (main (F := F))) (s₀ m ρ) (fun r =>
    (∀ c : Dev nD, r.2.mem ((c : Thread nD τ).loc main_v1) = outAt m c ∧ r.2.mem ((c : Thread nD τ).loc main_arg0) = m ((c : Thread nD τ).loc main_arg0))
      ∧ r.2.sem = fun _ => 0) := by
  have h := run_main m ρ
  unfold Final at h
  simp only [written] at h
  exact h

end Cert.KernelIdealRun

end
-- ==== Proof.KernelIdealValue.lean ====
module

public import proofs.«01_k».proof.Proof.KernelIdealProtocol
public import Idealize.ShloMosaic.Lib.Pipeline.Value
public import Idealize.ShloMosaic.Lib.Pointwise.Reduce
public import Idealize.ShloMosaic.Lib.IdealHost

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## One tile -/

/-- The column of an entry of a result. -/
def col (i : S1x1024.Idx) : Fin 1024 := i 1

/-- What a tile adds to a device's sum, as the kernel computes it: the sum of its 256 rows. -/
def part (v : S1x256x1024.Idx → Elt Ideal .bf16) : FVec Ideal S1x1024 .bf16 :=
  truncf .bf16 (shapeCast S1x1024 (multiReduction .add [0] S1024
    (extf .f32 (shapeCast S256x1024 (v : Vec Ideal S1x256x1024 .bf16) shapeCasts_S1x256x1024_S256x1024) bitsLt_bf16_f32 : FVec Ideal S256x1024 .f32)
    0x00000000#32 reduces_S256x1024_S1024 (.inl rfl) rfl) shapeCasts_S1024_S1x1024) bitsLt_bf16_f32

/-- A tile under its first shape again holds the rows. -/
theorem tile_rows (c : Dev nD) (t : Fin 8) (j : S256x1024.Idx) :
    tile m c t (Shape.reshapeEquiv shapeCasts_S1x256x1024_S256x1024 j) = rows m c t j := by
  unfold tile
  exact congrArg (rows m c t) (Equiv.symm_apply_apply _ j)

/-- A slot under its first shape again holds the sum. -/
theorem slot_sum (v : S1x1024.Idx → Elt Ideal .bf16) : shapeCast S1x1024 (slotOf v) shapeCasts_S1x1x1024_S1x1024 = v := by
  funext j
  unfold slotOf
  exact congrArg v (Equiv.symm_apply_apply _ j)

/-- The column of an entry, under the shape of one row without its unit axis. -/
theorem unit_dropped (i : S1x1024.Idx) : Shape.reshapeEquiv shapeCasts_S1024_S1x1024 i = ix1 (col i) :=
  Shape.reshapeEquiv_eq_of_rowMajor _ (by
    rw [Shape.rowMajor_val_one, Shape.rowMajor_val_two]
    have h : (i 0 : Nat) < 1 := (i 0).isLt
    show (i 1 : Nat) = (i 0 : Nat) * 1024 + (i 1 : Nat)
    omega)

/-- In exact arithmetic a tile's part is, in each column, the sum of the tile's entries in that column. -/
theorem part_apply (c : Dev nD) (t : Fin 8) (i : S1x1024.Idx) :
    (part (tile m c t) i : EReal) = ∑ k : Fin 256, (rows m c t (ix2 k (col i)) : EReal) := by
  unfold part
  refine (Ideal.multiReduction_add_single (extf .f32 (shapeCast S256x1024 (tile m c t : Vec Ideal S1x256x1024 .bf16) shapeCasts_S1x256x1024_S256x1024) bitsLt_bf16_f32)
    0x00000000#32 reduces_S256x1024_S1024 (.inl rfl) rfl (Shape.reshapeEquiv shapeCasts_S1024_S1x1024 i)).trans ?_
  refine Finset.sum_congr rfl fun k _ => ?_
  show (tile m c t (Shape.reshapeEquiv shapeCasts_S1x256x1024_S256x1024 _) : EReal) = _
  rw [tile_rows, unit_dropped]
  refine congrArg (rows m c t) (funext fun a => ?_)
  match a with
  | 0 => rfl
  | 1 => rfl

/-! ## One device, and all of them -/

/-- In exact arithmetic a device's sum is, in each column, the sum over its tiles and their rows. -/
theorem mySum_apply (c : Dev nD) (i : S1x1024.Idx) :
    (mySum m c i : EReal) = ∑ t : Fin 8, ∑ k : Fin 256, (rows m c t (ix2 k (col i)) : EReal) := by
  have h : mySum m c = addf (addf (addf (addf (addf (addf (addf (addf (broadcast S1x1024 (Scalar.ofBits .bf16 0x0000#16 : Ideal .bf16)) (part (tile m c 0)))
      (part (tile m c 1))) (part (tile m c 2))) (part (tile m c 3))) (part (tile m c 4))) (part (tile m c 5))) (part (tile m c 6))) (part (tile m c 7)) := by
    exact shapeCast_self (addf _ (part (tile m c 7))) shapeCasts_S1x1024_S1x1024
  rw [h]
  show ((((((((Ideal.ofBits .bf16 0x0000#16 : EReal) + part (tile m c 0) i) + part (tile m c 1) i) + part (tile m c 2) i) + part (tile m c 3) i)
    + part (tile m c 4) i) + part (tile m c 5) i) + part (tile m c 6) i) + part (tile m c 7) i = _
  rw [Ideal.ofBits_zero_bf16, zero_add]
  simp only [part_apply]
  rw [Fin.sum_univ_eight]

/-- A device's own term and the terms of the three devices it hears from are the terms of all the devices. -/
theorem around (f : Dev nD → EReal) (c : Dev nD) : ((f c + f (src 0 c)) + f (src 1 c)) + f (src 2 c) = ∑ d, f d := by
  show _ = ∑ d : Fin 4, f d
  rw [Fin.sum_univ_four]
  fin_cases c
  · show ((f 0 + f 3) + f 2) + f 1 = _
    ac_rfl
  · show ((f 1 + f 0) + f 3) + f 2 = _
    ac_rfl
  · show ((f 2 + f 1) + f 0) + f 3 = _
    ac_rfl
  · show ((f 3 + f 2) + f 1) + f 0 = _
    ac_rfl

/-- In exact arithmetic every device's result is, in each column, the sum over all the devices, their tiles and the tiles' rows. -/
theorem outAt_apply (c : Dev nD) (i : S1x1024.Idx) :
    (outAt m c i : EReal) = ∑ d : Dev nD, ∑ t : Fin 8, ∑ k : Fin 256, (rows m d t (ix2 k (col i)) : EReal) := by
  have h : outAt m c = addf (addf (addf (mySum m c) (mySum m (src 0 c))) (mySum m (src 1 c))) (mySum m (src 2 c)) := by
    exact congrArg₂ addf (congrArg₂ addf (congrArg₂ addf rfl (slot_sum _)) (slot_sum _)) (slot_sum _)
  rw [h]
  show (((mySum m c i : EReal) + mySum m (src 0 c) i) + mySum m (src 1 c) i) + mySum m (src 2 c) i = _
  refine Eq.trans ?_ (Finset.sum_congr rfl fun d _ => mySum_apply m d i)
  exact around (fun d => (mySum m d i : EReal)) c

end Cert.KernelIdealRun

end
-- ==== Proof.ReferenceIdealValue.lean ====
/-
  WHAT THE REFERENCE COMPUTES, in exact arithmetic: its term of the whole array is, in each column, the sum of the 8192
  entries of that column.
-/
module

public import proofs.«01_k».proof.Proof.Gen.ReferenceIdeal.Run
public import Idealize.ShloMosaic.Lib.Pointwise.Reduce
public import Idealize.ShloMosaic.Lib.IdealHost

@[expose] public section

noncomputable section

namespace Cert.ReferenceIdealValue

open Cert.ReferenceIdeal Cert.ReferenceIdeal.Gen Idealize.ShloMosaic Idealize.ShloMosaic.TcCoe

/-- The reference's result as a term of its argument, operation by operation. -/
def total (x : FVec Ideal S8192x1024 .bf16) : FVec Ideal S1x1024 .bf16 :=
  truncf .bf16 (broadcastInDim S1x1024 ![1] bcast_S1024_S1x1024_1
    (Host.reduceAdd (extf .f32 x bitsLt_bf16_f32) (constant S_ .f32 0x00000000#32) reducesTo_S8192x1024_S1024_d0 h_S_)) bitsLt_bf16_f32

/-- The column of an entry of a result. -/
def col (i : S1x1024.Idx) : Fin 1024 := i 1

/-- A vector written as the one row of a result has at each entry its value at the entry's column. -/
theorem spread (v : FVec Ideal S1024 .f32) (i : S1x1024.Idx) :
    truncf .bf16 (broadcastInDim S1x1024 ![1] bcast_S1024_S1x1024_1 v) bitsLt_bf16_f32 i = v (ix1 (col i)) := by
  refine congrArg v (funext fun a => ?_)
  match a with
  | 0 => exact dif_neg (by decide)

/-- In exact arithmetic the reference's result is, in each column, the sum of the array's entries in that column. -/
theorem total_apply (x : FVec Ideal S8192x1024 .bf16) (i : S1x1024.Idx) :
    (total x i : EReal) = ∑ n : Fin 8192, (x (ix2 n (col i)) : EReal) := by
  unfold total
  rw [spread]
  refine (Ideal.hostReduceAdd_r2_a0 (n0 := 8192) (n1 := 1024) (t := S1024) reducesTo_S8192x1024_S1024_d0 x (Ideal.ofBits .f32 0x00000000#32) (ix1 (col i))).trans ?_
  rw [Ideal.ofBits_zero_f32, zero_add]
  rfl

end Cert.ReferenceIdealValue

end
-- ==== Proof.Equation.lean ====
/-
  THE EQUATION. When every device holds its block of the whole array, 2048 rows of the 8192, the kernel's result on every
  device is the reference's: the row numbered `2048 d + 256 t + k` is row `k` of tile `t` of device `d`, and every row is
  counted once.
-/
module

public import proofs.«01_k».proof.Proof.KernelIdealValue
public import proofs.«01_k».proof.Proof.ReferenceIdealValue
public import Idealize.ShloMosaic.Lib.Layout

@[expose] public section

noncomputable section

namespace Cert.Equation

open Idealize.ShloMosaic Idealize.ShloMosaic.TcCoe
open Cert.KernelIdeal Cert.KernelIdealRun

/-- A sum over `a * b` numbers, taken in `a` runs of `b` numbers each. -/
theorem sum_runs {a b n : ℕ} (h : a * b = n) (f : Fin n → EReal) :
    ∑ i, f i = ∑ p : Fin a, ∑ q : Fin b, f ⟨b * p.val + q.val, by
      have h1 := q.isLt
      have h2 : b * (p.val + 1) ≤ b * a := Nat.mul_le_mul_left b p.isLt
      rw [Nat.mul_succ] at h2
      have h3 := Nat.mul_comm a b
      omega⟩ := by
  subst h
  rw [← Equiv.sum_comp finProdFinEquiv f, Fintype.sum_prod_type]
  refine Finset.sum_congr rfl fun p _ => Finset.sum_congr rfl fun q _ => congrArg f (Fin.ext ?_)
  exact Nat.add_comm _ _

variable (m : (ℓ : Loc nD τ sig) → Buf (Elt Ideal) ℓ)

/-- Device `d` holds block `d` of the whole array `x`. -/
def Cut (x : FVec Ideal ⟨2, ![8192, 1024]⟩ .bf16) : Prop :=
  ∀ d : Dev nD, m ((d.tc : Thread nD τ).loc main_arg0) = Layout.block ⟨2, ![2048, 1024]⟩ ⟨2, ![8192, 1024]⟩ 0 4 d x

/-- Row `k` of tile `t` of device `d` is the whole array's row numbered `2048 d + (256 t + k)`. -/
theorem rows_whole {x : FVec Ideal ⟨2, ![8192, 1024]⟩ .bf16} (h : Cut m x) (d : Dev nD) (t : Fin 8) (k : Fin 256) (j : Fin 1024) :
    rows m d t (ix2 k j) = x (ix2 ⟨2048 * d.val + (256 * t.val + k.val), by
      have := d.isLt
      have : d.val < 4 := d.isLt
      omega⟩ j) := by
  show m ((d.tc : Thread nD τ).loc main_arg0) ((xR t).emb (ix2 k j)) = _
  rw [h d]
  refine congrArg x (funext fun a => Fin.ext ?_)
  match a with
  | 0 =>
    show d.val * 2048 + (256 * t.val + 1 * k.val) = _
    show _ = 2048 * d.val + (256 * t.val + k.val)
    omega
  | 1 =>
    show 0 + 1 * j.val = j.val
    omega

/-- When every device holds its block of the whole array, every device's result is the reference's. -/
theorem result_eq {x : FVec Ideal ⟨2, ![8192, 1024]⟩ .bf16} (h : Cut m x) (c : Dev nD) :
    outAt m c = Cert.ReferenceIdealValue.total x := by
  funext i
  refine (outAt_apply m c i).trans (Eq.trans ?_ (Cert.ReferenceIdealValue.total_apply x i).symm)
  rw [sum_runs (a := 4) (b := 2048) rfl]
  refine Finset.sum_congr rfl fun d _ => ?_
  rw [sum_runs (a := 8) (b := 256) rfl]
  refine Finset.sum_congr rfl fun t _ => Finset.sum_congr rfl fun k _ => ?_
  exact rows_whole m h d t k (col i)

end Cert.Equation

end
-- ==== Proof.lean ====
/-
  The claims about the all-reduce kernel, assembled. The runs of the kernel, as written and in exact arithmetic, are
  `run_value` of KernelRun.lean and KernelIdealRun.lean; the equation of the kernel's result with the reference's is
  `result_eq` of Equation.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel as written runs to its end, leaves its argument as it was and ends with every counter at zero. -/
theorem frame_kernel : Cert.quiescent_Kernel := fun m ρ _ =>
  (θ_run Cert.Kernel.defs _ _).mono (fun _ h => ⟨fun c => (h.1 c).2, h.2⟩) (Cert.KernelRun.run_value m ρ)

/-- The same of the kernel read in exact arithmetic. -/
theorem frame_ideal : Cert.quiescent_KernelIdeal := fun m ρ _ =>
  (θ_run Cert.KernelIdeal.defs _ _).mono (fun _ h => ⟨fun c => (h.1 c).2, h.2⟩) (Cert.KernelIdealRun.run_value m ρ)

/-- The same of the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- In exact arithmetic every device's result is the reference's result of the whole array. -/
theorem algebraic : Cert.algebraic_KernelIdeal_ReferenceIdeal := by
  intro m ρ m' ρ' _ hcut
  refine ⟨Cert.ReferenceIdealValue.total (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h.1 c).1.trans (Cert.Equation.result_eq m hcut c), (h.1 c).2⟩) (Cert.KernelIdealRun.run_value m ρ)
  · exact (θ_run Cert.ReferenceIdeal.defs _ _).mono (fun _ h => h 0) (Cert.ReferenceIdeal.Value.run m' ρ')

/-- All the claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
